-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨3, ![2, 512, 512]⟩ ⟨3, ![2, 2048, 512]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 512, 512]⟩ ⟨3, ![2, 2048, 512]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v47) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x768 : Shape := ⟨3, ![2, 512, 768]⟩
abbrev S768x512 : Shape := ⟨2, ![768, 512]⟩
abbrev S2x512x512 : Shape := ⟨3, ![2, 512, 512]⟩
abbrev S512x768 : Shape := ⟨2, ![512, 768]⟩
abbrev S_ : Shape := ⟨0, ![]⟩

class Facts : Prop where
  bitsLt_bf16_f32 : FTy.bits .bf16 < FTy.bits .f32
  bcast_S_S2x512x768 : S_.BroadcastsInDim S2x512x768 (![] : Fin 0 → Fin S2x512x768.rank)
  bcast_S_S768x512 : S_.BroadcastsInDim S768x512 (![] : Fin 0 → Fin S768x512.rank)
  bcast_S_S2x512x512 : S_.BroadcastsInDim S2x512x512 (![] : Fin 0 → Fin S2x512x512.rank)

variable [Facts]

def fn {F : FTy → Type} [FloatOps F] (main_arg0 : FVec F S2x512x768 .bf16) (main_arg1 : FVec F S768x512 .bf16) (main_arg2 : FVec F S2x512x512 .bf16) (main_arg3 : FVec F S2x512x512 .bf16) (main_arg4 : FVec F S512x768 .bf16) : IVec S2x512x768 1 × IVec S768x512 1 × IVec S2x512x512 1 :=
  let main_v0 : FVec F S2x512x768 .f32 := (extf .f32 · bitsLt_bf16_f32) main_arg0
  let main_v1 : FVec F S2x512x768 .f32 := Host.absf main_v0
  let main_cst : FVec F S_ .f32 := constant S_ .f32 0x7F800000#32
  let main_v2 : FVec F S2x512x768 .f32 := broadcastInDim S2x512x768 ![] bcast_S_S2x512x768 main_cst
  let main_v3 : IVec S2x512x768 1 := cmpf .olt main_v1 main_v2
  let main_v4 : FVec F S768x512 .f32 := (extf .f32 · bitsLt_bf16_f32) main_arg1
  let main_v5 : FVec F S768x512 .f32 := Host.absf main_v4
  let main_cst_0 : FVec F S_ .f32 := constant S_ .f32 0x7F800000#32
  let main_v6 : FVec F S768x512 .f32 := broadcastInDim S768x512 ![] bcast_S_S768x512 main_cst_0
  let main_v7 : IVec S768x512 1 := cmpf .olt main_v5 main_v6
  let main_v8 : FVec F S2x512x512 .f32 := (extf .f32 · bitsLt_bf16_f32) main_arg2
  let main_v9 : FVec F S2x512x512 .f32 := Host.absf main_v8
  let main_cst_1 : FVec F S_ .f32 := constant S_ .f32 0x7F800000#32
  let main_v10 : FVec F S2x512x512 .f32 := broadcastInDim S2x512x512 ![] bcast_S_S2x512x512 main_cst_1
  let main_v11 : IVec S2x512x512 1 := cmpf .olt main_v9 main_v10
  (main_v3, main_v7, main_v11)
-- ==== Pre_finite_ReferenceIdeal.lean ====
abbrev S2x512x768 : Shape := ⟨3, ![2, 512, 768]⟩
abbrev S768x512 : Shape := ⟨2, ![768, 512]⟩
abbrev S2x2048x512 : Shape := ⟨3, ![2, 2048, 512]⟩
abbrev S512x768 : Shape := ⟨2, ![512, 768]⟩
abbrev S_ : Shape := ⟨0, ![]⟩

class Facts : Prop where
  bitsLt_bf16_f32 : FTy.bits .bf16 < FTy.bits .f32
  bcast_S_S2x512x768 : S_.BroadcastsInDim S2x512x768 (![] : Fin 0 → Fin S2x512x768.rank)
  bcast_S_S768x512 : S_.BroadcastsInDim S768x512 (![] : Fin 0 → Fin S768x512.rank)
  bcast_S_S2x2048x512 : S_.BroadcastsInDim S2x2048x512 (![] : Fin 0 → Fin S2x2048x512.rank)

variable [Facts]

def fn {F : FTy → Type} [FloatOps F] (main_arg0 : FVec F S2x512x768 .bf16) (main_arg1 : FVec F S768x512 .bf16) (main_arg2 : FVec F S2x2048x512 .bf16) (main_arg3 : FVec F S2x2048x512 .bf16) (main_arg4 : FVec F S512x768 .bf16) : IVec S2x512x768 1 × IVec S768x512 1 × IVec S2x2048x512 1 :=
  let main_v0 : FVec F S2x512x768 .f32 := (extf .f32 · bitsLt_bf16_f32) main_arg0
  let main_v1 : FVec F S2x512x768 .f32 := Host.absf main_v0
  let main_cst : FVec F S_ .f32 := constant S_ .f32 0x7F800000#32
  let main_v2 : FVec F S2x512x768 .f32 := broadcastInDim S2x512x768 ![] bcast_S_S2x512x768 main_cst
  let main_v3 : IVec S2x512x768 1 := cmpf .olt main_v1 main_v2
  let main_v4 : FVec F S768x512 .f32 := (extf .f32 · bitsLt_bf16_f32) main_arg1
  let main_v5 : FVec F S768x512 .f32 := Host.absf main_v4
  let main_cst_0 : FVec F S_ .f32 := constant S_ .f32 0x7F800000#32
  let main_v6 : FVec F S768x512 .f32 := broadcastInDim S768x512 ![] bcast_S_S768x512 main_cst_0
  let main_v7 : IVec S768x512 1 := cmpf .olt main_v5 main_v6
  let main_v8 : FVec F S2x2048x512 .f32 := (extf .f32 · bitsLt_bf16_f32) main_arg2
  let main_v9 : FVec F S2x2048x512 .f32 := Host.absf main_v8
  let main_cst_1 : FVec F S_ .f32 := constant S_ .f32 0x7F800000#32
  let main_v10 : FVec F S2x2048x512 .f32 := broadcastInDim S2x2048x512 ![] bcast_S_S2x2048x512 main_cst_1
  let main_v11 : IVec S2x2048x512 1 := cmpf .olt main_v9 main_v10
  (main_v3, main_v7, main_v11)
-- ==== Kernel.lean ====
abbrev S2x512x768 : Shape := ⟨3, ![2, 512, 768]⟩
abbrev S768x512 : Shape := ⟨2, ![768, 512]⟩
abbrev S2x512x512 : Shape := ⟨3, ![2, 512, 512]⟩
abbrev S512x768 : Shape := ⟨2, ![512, 768]⟩
abbrev S2x512x640 : Shape := ⟨3, ![2, 512, 640]⟩
abbrev S2x160x640 : Shape := ⟨3, ![2, 160, 640]⟩
abbrev S2x32x640 : Shape := ⟨3, ![2, 32, 640]⟩
abbrev S3 : Shape := ⟨1, ![3]⟩
abbrev S4 : Shape := ⟨1, ![4]⟩
abbrev S_ : Shape := ⟨0, ![]⟩
abbrev S1x512x768 : Shape := ⟨3, ![1, 512, 768]⟩
abbrev S512x512 : Shape := ⟨2, ![512, 512]⟩
abbrev S512x64 : Shape := ⟨2, ![512, 64]⟩
abbrev S128x128 : Shape := ⟨2, ![128, 128]⟩
abbrev S1x512x64 : Shape := ⟨3, ![1, 512, 64]⟩
abbrev S512x128 : Shape := ⟨2, ![512, 128]⟩
abbrev S512x1 : Shape := ⟨2, ![512, 1]⟩
abbrev S1x512x1 : Shape := ⟨3, ![1, 512, 1]⟩
abbrev S32x64 : Shape := ⟨2, ![32, 64]⟩
abbrev S32x512 : Shape := ⟨2, ![32, 512]⟩
abbrev S32x128 : Shape := ⟨2, ![32, 128]⟩
abbrev S1x32x64 : Shape := ⟨3, ![1, 32, 64]⟩
abbrev S32x1 : Shape := ⟨2, ![32, 1]⟩
abbrev S1x32x1 : Shape := ⟨3, ![1, 32, 1]⟩
abbrev S128x64 : Shape := ⟨2, ![128, 64]⟩
abbrev S1x128x64 : Shape := ⟨3, ![1, 128, 64]⟩
abbrev S128x1 : Shape := ⟨2, ![128, 1]⟩
abbrev S1x128x1 : Shape := ⟨3, ![1, 128, 1]⟩
abbrev S1 : Shape := ⟨1, ![1]⟩
abbrev S1x352x64 : Shape := ⟨3, ![1, 352, 64]⟩
abbrev S352x64 : Shape := ⟨2, ![352, 64]⟩
abbrev S1x352x1 : Shape := ⟨3, ![1, 352, 1]⟩
abbrev S352x1 : Shape := ⟨2, ![352, 1]⟩

abbrev nBuf : Space → Nat
  | .hbm => 6
  | .vmem => 10
  | .smem => 0
  | _ => 0

abbrev bufTy : (tb : Table) → Fin (tcTables nBuf tb) → BufTy
  | .hbm, ⟨0, _⟩ => ⟨S2x512x768, .bf16⟩
  | .hbm, ⟨1, _⟩ => ⟨S768x512, .bf16⟩
  | .hbm, ⟨2, _⟩ => ⟨S2x512x512, .bf16⟩
  | .hbm, ⟨3, _⟩ => ⟨S2x512x512, .bf16⟩
  | .hbm, ⟨4, _⟩ => ⟨S512x768, .bf16⟩
  | .hbm, ⟨5, _⟩ => ⟨S2x512x768, .f32⟩
  | .local _ .vmem, ⟨0, _⟩ => ⟨S2x512x768, .bf16⟩
  | .local _ .vmem, ⟨1, _⟩ => ⟨S768x512, .bf16⟩
  | .local _ .vmem, ⟨2, _⟩ => ⟨S2x512x512, .bf16⟩
  | .local _ .vmem, ⟨3, _⟩ => ⟨S2x512x512, .bf16⟩
  | .local _ .vmem, ⟨4, _⟩ => ⟨S512x768, .bf16⟩
  | .local _ .vmem, ⟨5, _⟩ => ⟨S2x512x768, .f32⟩
  | .local _ .vmem, ⟨6, _⟩ => ⟨S2x512x640, .bf16⟩
  | .local _ .vmem, ⟨7, _⟩ => ⟨S2x160x640, .bf16⟩
  | .local _ .vmem, ⟨8, _⟩ => ⟨S2x32x640, .bf16⟩
  | .local _ .vmem, ⟨9, _⟩ => ⟨S2x32x640, .bf16⟩
  | _, _ => ⟨S2x512x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 1 13 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_cond5 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_47 : BitVec 32 := 0#32
  let v85 : BitVec 1 := Scalar.cmpi .eq v2 c0_i32_47
  let v86 : BitVec 32 := Scalar.extui v85
  let c0_i32_48 : BitVec 32 := 0#32
  let v87 : BitVec 1 := Scalar.cmpi .ne v86 c0_i32_48
  v87

def k0_dev4 (d0 : Dev nD) : Nat :=
  let c0_i32_747 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_737 : BitVec 32 := 1#32
  let v1061 : BitVec 32 := Scalar.addi v2 c1_i32_737
  let c4_i32_738 : BitVec 32 := 4#32
  let c0_i32_739 : BitVec 32 := 0#32
  let v1062 : BitVec 1 := Scalar.cmpi .eq c4_i32_738 c0_i32_739
  let c1_i32_740 : BitVec 32 := 1#32
  let v1063 : BitVec 32 := Scalar.select v1062 c1_i32_740 c4_i32_738
  let v1064 : BitVec 32 := Scalar.remsi v1061 v1063
  let c0_i32_742 : BitVec 32 := 0#32
  let v1066 : BitVec 1 := Scalar.cmpi .slt v1064 c0_i32_742
  let c0_i32_743 : BitVec 32 := 0#32
  let v1067 : BitVec 1 := Scalar.cmpi .slt v1063 c0_i32_743
  let v1068 : BitVec 1 := Scalar.xori v1066 v1067
  let c0_i32_741 : BitVec 32 := 0#32
  let v1065 : BitVec 1 := Scalar.cmpi .ne v1064 c0_i32_741
  let v1069 : BitVec 1 := Scalar.andi v1068 v1065
  let v1070 : BitVec 32 := Scalar.addi v1064 v1063
  let v1071 : BitVec 32 := Scalar.select v1069 v1070 v1064
  let c1_i32_746 : BitVec 32 := 1#32
  let v1072 : BitVec 32 := Scalar.muli v1071 c1_i32_746
  let v1073 : BitVec 32 := Scalar.addi c0_i32_747 v1072
  v1073.toNat
def k0_dev5 (d0 : Dev nD) : Nat :=
  let c0_i32_758 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_748 : BitVec 32 := 2#32
  let v1078 : BitVec 32 := Scalar.addi v2 c2_i32_748
  let c4_i32_749 : BitVec 32 := 4#32
  let c0_i32_750 : BitVec 32 := 0#32
  let v1079 : BitVec 1 := Scalar.cmpi .eq c4_i32_749 c0_i32_750
  let c1_i32_751 : BitVec 32 := 1#32
  let v1080 : BitVec 32 := Scalar.select v1079 c1_i32_751 c4_i32_749
  let v1081 : BitVec 32 := Scalar.remsi v1078 v1080
  let c0_i32_753 : BitVec 32 := 0#32
  let v1083 : BitVec 1 := Scalar.cmpi .slt v1081 c0_i32_753
  let c0_i32_754 : BitVec 32 := 0#32
  let v1084 : BitVec 1 := Scalar.cmpi .slt v1080 c0_i32_754
  let v1085 : BitVec 1 := Scalar.xori v1083 v1084
  let c0_i32_752 : BitVec 32 := 0#32
  let v1082 : BitVec 1 := Scalar.cmpi .ne v1081 c0_i32_752
  let v1086 : BitVec 1 := Scalar.andi v1085 v1082
  let v1087 : BitVec 32 := Scalar.addi v1081 v1080
  let v1088 : BitVec 32 := Scalar.select v1086 v1087 v1081
  let c1_i32_757 : BitVec 32 := 1#32
  let v1089 : BitVec 32 := Scalar.muli v1088 c1_i32_757
  let v1090 : BitVec 32 := Scalar.addi c0_i32_758 v1089
  v1090.toNat
def k0_dev6 (d0 : Dev nD) : Nat :=
  let c0_i32_769 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_759 : BitVec 32 := 3#32
  let v1095 : BitVec 32 := Scalar.addi v2 c3_i32_759
  let c4_i32_760 : BitVec 32 := 4#32
  let c0_i32_761 : BitVec 32 := 0#32
  let v1096 : BitVec 1 := Scalar.cmpi .eq c4_i32_760 c0_i32_761
  let c1_i32_762 : BitVec 32 := 1#32
  let v1097 : BitVec 32 := Scalar.select v1096 c1_i32_762 c4_i32_760
  let v1098 : BitVec 32 := Scalar.remsi v1095 v1097
  let c0_i32_764 : BitVec 32 := 0#32
  let v1100 : BitVec 1 := Scalar.cmpi .slt v1098 c0_i32_764
  let c0_i32_765 : BitVec 32 := 0#32
  let v1101 : BitVec 1 := Scalar.cmpi .slt v1097 c0_i32_765
  let v1102 : BitVec 1 := Scalar.xori v1100 v1101
  let c0_i32_763 : BitVec 32 := 0#32
  let v1099 : BitVec 1 := Scalar.cmpi .ne v1098 c0_i32_763
  let v1103 : BitVec 1 := Scalar.andi v1102 v1099
  let v1104 : BitVec 32 := Scalar.addi v1098 v1097
  let v1105 : BitVec 32 := Scalar.select v1103 v1104 v1098
  let c1_i32_768 : BitVec 32 := 1#32
  let v1106 : BitVec 32 := Scalar.muli v1105 c1_i32_768
  let v1107 : BitVec 32 := Scalar.addi c0_i32_769 v1106
  v1107.toNat
def k0_cond6 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_49 : BitVec 32 := 1#32
  let v88 : BitVec 1 := Scalar.cmpi .eq v2 c1_i32_49
  let v89 : BitVec 32 := Scalar.extui v88
  let c0_i32_50 : BitVec 32 := 0#32
  let v90 : BitVec 1 := Scalar.cmpi .ne v89 c0_i32_50
  v90

def k0_dev7 (d0 : Dev nD) : Nat :=
  let c0_i32_747 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_737 : BitVec 32 := 1#32
  let v1061 : BitVec 32 := Scalar.addi v2 c1_i32_737
  let c4_i32_738 : BitVec 32 := 4#32
  let c0_i32_739 : BitVec 32 := 0#32
  let v1062 : BitVec 1 := Scalar.cmpi .eq c4_i32_738 c0_i32_739
  let c1_i32_740 : BitVec 32 := 1#32
  let v1063 : BitVec 32 := Scalar.select v1062 c1_i32_740 c4_i32_738
  let v1064 : BitVec 32 := Scalar.remsi v1061 v1063
  let c0_i32_742 : BitVec 32 := 0#32
  let v1066 : BitVec 1 := Scalar.cmpi .slt v1064 c0_i32_742
  let c0_i32_743 : BitVec 32 := 0#32
  let v1067 : BitVec 1 := Scalar.cmpi .slt v1063 c0_i32_743
  let v1068 : BitVec 1 := Scalar.xori v1066 v1067
  let c0_i32_741 : BitVec 32 := 0#32
  let v1065 : BitVec 1 := Scalar.cmpi .ne v1064 c0_i32_741
  let v1069 : BitVec 1 := Scalar.andi v1068 v1065
  let v1070 : BitVec 32 := Scalar.addi v1064 v1063
  let v1071 : BitVec 32 := Scalar.select v1069 v1070 v1064
  let c1_i32_746 : BitVec 32 := 1#32
  let v1072 : BitVec 32 := Scalar.muli v1071 c1_i32_746
  let v1073 : BitVec 32 := Scalar.addi c0_i32_747 v1072
  v1073.toNat
def k0_dev8 (d0 : Dev nD) : Nat :=
  let c0_i32_758 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_748 : BitVec 32 := 2#32
  let v1078 : BitVec 32 := Scalar.addi v2 c2_i32_748
  let c4_i32_749 : BitVec 32 := 4#32
  let c0_i32_750 : BitVec 32 := 0#32
  let v1079 : BitVec 1 := Scalar.cmpi .eq c4_i32_749 c0_i32_750
  let c1_i32_751 : BitVec 32 := 1#32
  let v1080 : BitVec 32 := Scalar.select v1079 c1_i32_751 c4_i32_749
  let v1081 : BitVec 32 := Scalar.remsi v1078 v1080
  let c0_i32_753 : BitVec 32 := 0#32
  let v1083 : BitVec 1 := Scalar.cmpi .slt v1081 c0_i32_753
  let c0_i32_754 : BitVec 32 := 0#32
  let v1084 : BitVec 1 := Scalar.cmpi .slt v1080 c0_i32_754
  let v1085 : BitVec 1 := Scalar.xori v1083 v1084
  let c0_i32_752 : BitVec 32 := 0#32
  let v1082 : BitVec 1 := Scalar.cmpi .ne v1081 c0_i32_752
  let v1086 : BitVec 1 := Scalar.andi v1085 v1082
  let v1087 : BitVec 32 := Scalar.addi v1081 v1080
  let v1088 : BitVec 32 := Scalar.select v1086 v1087 v1081
  let c1_i32_757 : BitVec 32 := 1#32
  let v1089 : BitVec 32 := Scalar.muli v1088 c1_i32_757
  let v1090 : BitVec 32 := Scalar.addi c0_i32_758 v1089
  v1090.toNat
def k0_dev9 (d0 : Dev nD) : Nat :=
  let c0_i32_769 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_759 : BitVec 32 := 3#32
  let v1095 : BitVec 32 := Scalar.addi v2 c3_i32_759
  let c4_i32_760 : BitVec 32 := 4#32
  let c0_i32_761 : BitVec 32 := 0#32
  let v1096 : BitVec 1 := Scalar.cmpi .eq c4_i32_760 c0_i32_761
  let c1_i32_762 : BitVec 32 := 1#32
  let v1097 : BitVec 32 := Scalar.select v1096 c1_i32_762 c4_i32_760
  let v1098 : BitVec 32 := Scalar.remsi v1095 v1097
  let c0_i32_764 : BitVec 32 := 0#32
  let v1100 : BitVec 1 := Scalar.cmpi .slt v1098 c0_i32_764
  let c0_i32_765 : BitVec 32 := 0#32
  let v1101 : BitVec 1 := Scalar.cmpi .slt v1097 c0_i32_765
  let v1102 : BitVec 1 := Scalar.xori v1100 v1101
  let c0_i32_763 : BitVec 32 := 0#32
  let v1099 : BitVec 1 := Scalar.cmpi .ne v1098 c0_i32_763
  let v1103 : BitVec 1 := Scalar.andi v1102 v1099
  let v1104 : BitVec 32 := Scalar.addi v1098 v1097
  let v1105 : BitVec 32 := Scalar.select v1103 v1104 v1098
  let c1_i32_768 : BitVec 32 := 1#32
  let v1106 : BitVec 32 := Scalar.muli v1105 c1_i32_768
  let v1107 : BitVec 32 := Scalar.addi c0_i32_769 v1106
  v1107.toNat
def k0_cond7 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_51 : BitVec 32 := 2#32
  let v91 : BitVec 1 := Scalar.cmpi .eq v2 c2_i32_51
  let v92 : BitVec 32 := Scalar.extui v91
  let c0_i32_52 : BitVec 32 := 0#32
  let v93 : BitVec 1 := Scalar.cmpi .ne v92 c0_i32_52
  v93

def k0_dev10 (d0 : Dev nD) : Nat :=
  let c0_i32_747 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_737 : BitVec 32 := 1#32
  let v1061 : BitVec 32 := Scalar.addi v2 c1_i32_737
  let c4_i32_738 : BitVec 32 := 4#32
  let c0_i32_739 : BitVec 32 := 0#32
  let v1062 : BitVec 1 := Scalar.cmpi .eq c4_i32_738 c0_i32_739
  let c1_i32_740 : BitVec 32 := 1#32
  let v1063 : BitVec 32 := Scalar.select v1062 c1_i32_740 c4_i32_738
  let v1064 : BitVec 32 := Scalar.remsi v1061 v1063
  let c0_i32_742 : BitVec 32 := 0#32
  let v1066 : BitVec 1 := Scalar.cmpi .slt v1064 c0_i32_742
  let c0_i32_743 : BitVec 32 := 0#32
  let v1067 : BitVec 1 := Scalar.cmpi .slt v1063 c0_i32_743
  let v1068 : BitVec 1 := Scalar.xori v1066 v1067
  let c0_i32_741 : BitVec 32 := 0#32
  let v1065 : BitVec 1 := Scalar.cmpi .ne v1064 c0_i32_741
  let v1069 : BitVec 1 := Scalar.andi v1068 v1065
  let v1070 : BitVec 32 := Scalar.addi v1064 v1063
  let v1071 : BitVec 32 := Scalar.select v1069 v1070 v1064
  let c1_i32_746 : BitVec 32 := 1#32
  let v1072 : BitVec 32 := Scalar.muli v1071 c1_i32_746
  let v1073 : BitVec 32 := Scalar.addi c0_i32_747 v1072
  v1073.toNat
def k0_dev11 (d0 : Dev nD) : Nat :=
  let c0_i32_758 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_748 : BitVec 32 := 2#32
  let v1078 : BitVec 32 := Scalar.addi v2 c2_i32_748
  let c4_i32_749 : BitVec 32 := 4#32
  let c0_i32_750 : BitVec 32 := 0#32
  let v1079 : BitVec 1 := Scalar.cmpi .eq c4_i32_749 c0_i32_750
  let c1_i32_751 : BitVec 32 := 1#32
  let v1080 : BitVec 32 := Scalar.select v1079 c1_i32_751 c4_i32_749
  let v1081 : BitVec 32 := Scalar.remsi v1078 v1080
  let c0_i32_753 : BitVec 32 := 0#32
  let v1083 : BitVec 1 := Scalar.cmpi .slt v1081 c0_i32_753
  let c0_i32_754 : BitVec 32 := 0#32
  let v1084 : BitVec 1 := Scalar.cmpi .slt v1080 c0_i32_754
  let v1085 : BitVec 1 := Scalar.xori v1083 v1084
  let c0_i32_752 : BitVec 32 := 0#32
  let v1082 : BitVec 1 := Scalar.cmpi .ne v1081 c0_i32_752
  let v1086 : BitVec 1 := Scalar.andi v1085 v1082
  let v1087 : BitVec 32 := Scalar.addi v1081 v1080
  let v1088 : BitVec 32 := Scalar.select v1086 v1087 v1081
  let c1_i32_757 : BitVec 32 := 1#32
  let v1089 : BitVec 32 := Scalar.muli v1088 c1_i32_757
  let v1090 : BitVec 32 := Scalar.addi c0_i32_758 v1089
  v1090.toNat
def k0_dev12 (d0 : Dev nD) : Nat :=
  let c0_i32_769 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_759 : BitVec 32 := 3#32
  let v1095 : BitVec 32 := Scalar.addi v2 c3_i32_759
  let c4_i32_760 : BitVec 32 := 4#32
  let c0_i32_761 : BitVec 32 := 0#32
  let v1096 : BitVec 1 := Scalar.cmpi .eq c4_i32_760 c0_i32_761
  let c1_i32_762 : BitVec 32 := 1#32
  let v1097 : BitVec 32 := Scalar.select v1096 c1_i32_762 c4_i32_760
  let v1098 : BitVec 32 := Scalar.remsi v1095 v1097
  let c0_i32_764 : BitVec 32 := 0#32
  let v1100 : BitVec 1 := Scalar.cmpi .slt v1098 c0_i32_764
  let c0_i32_765 : BitVec 32 := 0#32
  let v1101 : BitVec 1 := Scalar.cmpi .slt v1097 c0_i32_765
  let v1102 : BitVec 1 := Scalar.xori v1100 v1101
  let c0_i32_763 : BitVec 32 := 0#32
  let v1099 : BitVec 1 := Scalar.cmpi .ne v1098 c0_i32_763
  let v1103 : BitVec 1 := Scalar.andi v1102 v1099
  let v1104 : BitVec 32 := Scalar.addi v1098 v1097
  let v1105 : BitVec 32 := Scalar.select v1103 v1104 v1098
  let c1_i32_768 : BitVec 32 := 1#32
  let v1106 : BitVec 32 := Scalar.muli v1105 c1_i32_768
  let v1107 : BitVec 32 := Scalar.addi c0_i32_769 v1106
  v1107.toNat
def k0_cond8 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_53 : BitVec 32 := 3#32
  let v94 : BitVec 1 := Scalar.cmpi .eq v2 c3_i32_53
  let v95 : BitVec 32 := Scalar.extui v94
  let c0_i32_54 : BitVec 32 := 0#32
  let v96 : BitVec 1 := Scalar.cmpi .ne v95 c0_i32_54
  v96

def k0_dev13 (d0 : Dev nD) : Nat :=
  let c0_i32_747 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_737 : BitVec 32 := 1#32
  let v1061 : BitVec 32 := Scalar.addi v2 c1_i32_737
  let c4_i32_738 : BitVec 32 := 4#32
  let c0_i32_739 : BitVec 32 := 0#32
  let v1062 : BitVec 1 := Scalar.cmpi .eq c4_i32_738 c0_i32_739
  let c1_i32_740 : BitVec 32 := 1#32
  let v1063 : BitVec 32 := Scalar.select v1062 c1_i32_740 c4_i32_738
  let v1064 : BitVec 32 := Scalar.remsi v1061 v1063
  let c0_i32_742 : BitVec 32 := 0#32
  let v1066 : BitVec 1 := Scalar.cmpi .slt v1064 c0_i32_742
  let c0_i32_743 : BitVec 32 := 0#32
  let v1067 : BitVec 1 := Scalar.cmpi .slt v1063 c0_i32_743
  let v1068 : BitVec 1 := Scalar.xori v1066 v1067
  let c0_i32_741 : BitVec 32 := 0#32
  let v1065 : BitVec 1 := Scalar.cmpi .ne v1064 c0_i32_741
  let v1069 : BitVec 1 := Scalar.andi v1068 v1065
  let v1070 : BitVec 32 := Scalar.addi v1064 v1063
  let v1071 : BitVec 32 := Scalar.select v1069 v1070 v1064
  let c1_i32_746 : BitVec 32 := 1#32
  let v1072 : BitVec 32 := Scalar.muli v1071 c1_i32_746
  let v1073 : BitVec 32 := Scalar.addi c0_i32_747 v1072
  v1073.toNat
def k0_dev14 (d0 : Dev nD) : Nat :=
  let c0_i32_758 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_748 : BitVec 32 := 2#32
  let v1078 : BitVec 32 := Scalar.addi v2 c2_i32_748
  let c4_i32_749 : BitVec 32 := 4#32
  let c0_i32_750 : BitVec 32 := 0#32
  let v1079 : BitVec 1 := Scalar.cmpi .eq c4_i32_749 c0_i32_750
  let c1_i32_751 : BitVec 32 := 1#32
  let v1080 : BitVec 32 := Scalar.select v1079 c1_i32_751 c4_i32_749
  let v1081 : BitVec 32 := Scalar.remsi v1078 v1080
  let c0_i32_753 : BitVec 32 := 0#32
  let v1083 : BitVec 1 := Scalar.cmpi .slt v1081 c0_i32_753
  let c0_i32_754 : BitVec 32 := 0#32
  let v1084 : BitVec 1 := Scalar.cmpi .slt v1080 c0_i32_754
  let v1085 : BitVec 1 := Scalar.xori v1083 v1084
  let c0_i32_752 : BitVec 32 := 0#32
  let v1082 : BitVec 1 := Scalar.cmpi .ne v1081 c0_i32_752
  let v1086 : BitVec 1 := Scalar.andi v1085 v1082
  let v1087 : BitVec 32 := Scalar.addi v1081 v1080
  let v1088 : BitVec 32 := Scalar.select v1086 v1087 v1081
  let c1_i32_757 : BitVec 32 := 1#32
  let v1089 : BitVec 32 := Scalar.muli v1088 c1_i32_757
  let v1090 : BitVec 32 := Scalar.addi c0_i32_758 v1089
  v1090.toNat
def k0_dev15 (d0 : Dev nD) : Nat :=
  let c0_i32_769 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_759 : BitVec 32 := 3#32
  let v1095 : BitVec 32 := Scalar.addi v2 c3_i32_759
  let c4_i32_760 : BitVec 32 := 4#32
  let c0_i32_761 : BitVec 32 := 0#32
  let v1096 : BitVec 1 := Scalar.cmpi .eq c4_i32_760 c0_i32_761
  let c1_i32_762 : BitVec 32 := 1#32
  let v1097 : BitVec 32 := Scalar.select v1096 c1_i32_762 c4_i32_760
  let v1098 : BitVec 32 := Scalar.remsi v1095 v1097
  let c0_i32_764 : BitVec 32 := 0#32
  let v1100 : BitVec 1 := Scalar.cmpi .slt v1098 c0_i32_764
  let c0_i32_765 : BitVec 32 := 0#32
  let v1101 : BitVec 1 := Scalar.cmpi .slt v1097 c0_i32_765
  let v1102 : BitVec 1 := Scalar.xori v1100 v1101
  let c0_i32_763 : BitVec 32 := 0#32
  let v1099 : BitVec 1 := Scalar.cmpi .ne v1098 c0_i32_763
  let v1103 : BitVec 1 := Scalar.andi v1102 v1099
  let v1104 : BitVec 32 := Scalar.addi v1098 v1097
  let v1105 : BitVec 32 := Scalar.select v1103 v1104 v1098
  let c1_i32_768 : BitVec 32 := 1#32
  let v1106 : BitVec 32 := Scalar.muli v1105 c1_i32_768
  let v1107 : BitVec 32 := Scalar.addi c0_i32_769 v1106
  v1107.toNat
abbrev stage0_0 : Fin 1 → Memref sig .tc .vmem S2x512x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x512x768 : Shape := ⟨3, ![2, 512, 768]⟩
abbrev S768x512 : Shape := ⟨2, ![768, 512]⟩
abbrev S2x2048x512 : Shape := ⟨3, ![2, 2048, 512]⟩
abbrev S512x768 : Shape := ⟨2, ![512, 768]⟩
abbrev S2x2048x8x64 : Shape := ⟨4, ![2, 2048, 8, 64]⟩
abbrev S2x512x512 : Shape := ⟨3, ![2, 512, 512]⟩
abbrev S2x512x8x64 : Shape := ⟨4, ![2, 512, 8, 64]⟩
abbrev S512 : Shape := ⟨1, ![512]⟩
abbrev S512x1 : Shape := ⟨2, ![512, 1]⟩
abbrev S2048 : Shape := ⟨1, ![2048]⟩
abbrev S1x2048 : Shape := ⟨2, ![1, 2048]⟩
abbrev S512x2048 : Shape := ⟨2, ![512, 2048]⟩
abbrev S_ : Shape := ⟨0, ![]⟩
abbrev S2x8x512x2048 : Shape := ⟨4, ![2, 8, 512, 2048]⟩
abbrev S1x1x512x2048 : Shape := ⟨4, ![1, 1, 512, 2048]⟩
abbrev S2x8x512 : Shape := ⟨3, ![2, 8, 512]⟩
abbrev S2x8x512x1 : Shape := ⟨4, ![2, 8, 512, 1]⟩
abbrev S1x1x512x1 : Shape := ⟨4, ![1, 1, 512, 1]⟩
abbrev S2x8x64x512 : Shape := ⟨4, ![2, 8, 64, 512]⟩

abbrev nBuf : Space → Nat
  | .hbm => 72
  | .vmem => 0
  | .smem => 0
  | _ => 0

abbrev bufTy : (tb : Table) → Fin (tcTables nBuf tb) → BufTy
  | .hbm, ⟨0, _⟩ => ⟨S2x512x768, .bf16⟩
  | .hbm, ⟨1, _⟩ => ⟨S768x512, .bf16⟩
  | .hbm, ⟨2, _⟩ => ⟨S2x2048x512, .bf16⟩
  | .hbm, ⟨3, _⟩ => ⟨S2x2048x512, .bf16⟩
  | .hbm, ⟨4, _⟩ => ⟨S512x768, .bf16⟩
  | .hbm, ⟨5, _⟩ => ⟨S2x2048x8x64, .bf16⟩
  | .hbm, ⟨6, _⟩ => ⟨S2x2048x8x64, .bf16⟩
  | .hbm, ⟨7, _⟩ => ⟨S2x512x512, .f32⟩
  | .hbm, ⟨8, _⟩ => ⟨S2x512x512, .bf16⟩
  | .hbm, ⟨9, _⟩ => ⟨S2x512x8x64, .bf16⟩
  | .hbm, ⟨10, _⟩ => ⟨S512, .i32⟩
  | .hbm, ⟨11, _⟩ => ⟨S512x1, .i32⟩
  | .hbm, ⟨12, _⟩ => ⟨S2048, .i32⟩
  | .hbm, ⟨13, _⟩ => ⟨S1x2048, .i32⟩
  | .hbm, ⟨14, _⟩ => ⟨S512x2048, .i32⟩
  | .hbm, ⟨15, _⟩ => ⟨S512x2048, .i32⟩
  | .hbm, ⟨16, _⟩ => ⟨S512x2048, .i32⟩
  | .hbm, ⟨17, _⟩ => ⟨S512x2048, .i32⟩
  | .hbm, ⟨18, _⟩ => ⟨S_, .i32⟩
  | .hbm, ⟨19, _⟩ => ⟨S512x2048, .i32⟩
  | .hbm, ⟨20, _⟩ => ⟨S512x2048, .i1⟩
  | .hbm, ⟨21, _⟩ => ⟨S_, .i32⟩
  | .hbm, ⟨22, _⟩ => ⟨S1x2048, .i32⟩
  | .hbm, ⟨23, _⟩ => ⟨S1x2048, .i1⟩
  | .hbm, ⟨24, _⟩ => ⟨S_, .i32⟩
  | .hbm, ⟨25, _⟩ => ⟨S512x1, .i32⟩
  | .hbm, ⟨26, _⟩ => ⟨S512x1, .i1⟩
  | .hbm, ⟨27, _⟩ => ⟨S512x2048, .i1⟩
  | .hbm, ⟨28, _⟩ => ⟨S512x2048, .i1⟩
  | .hbm, ⟨29, _⟩ => ⟨S512x2048, .i1⟩
  | .hbm, ⟨30, _⟩ => ⟨S512x2048, .i1⟩
  | .hbm, ⟨31, _⟩ => ⟨S2x8x512x2048, .f32⟩
  | .hbm, ⟨32, _⟩ => ⟨S_, .f32⟩
  | .hbm, ⟨33, _⟩ => ⟨S2x8x512x2048, .f32⟩
  | .hbm, ⟨34, _⟩ => ⟨S2x8x512x2048, .f32⟩
  | .hbm, ⟨35, _⟩ => ⟨S1x1x512x2048, .i1⟩
  | .hbm, ⟨36, _⟩ => ⟨S_, .f32⟩
  | .hbm, ⟨37, _⟩ => ⟨S_, .f32⟩
  | .hbm, ⟨38, _⟩ => ⟨S2x8x512x2048, .i1⟩
  | .hbm, ⟨39, _⟩ => ⟨S2x8x512x2048, .f32⟩
  | .hbm, ⟨40, _⟩ => ⟨S2x8x512x2048, .f32⟩
  | .hbm, ⟨41, _⟩ => ⟨S_, .f32⟩
  | .hbm, ⟨42, _⟩ => ⟨S2x8x512, .f32⟩
  | .hbm, ⟨43, _⟩ => ⟨S2x8x512x1, .f32⟩
  | .hbm, ⟨44, _⟩ => ⟨S2x8x512x2048, .f32⟩
  | .hbm, ⟨45, _⟩ => ⟨S2x8x512x2048, .f32⟩
  | .hbm, ⟨46, _⟩ => ⟨S2x8x512x2048, .f32⟩
  | .hbm, ⟨47, _⟩ => ⟨S_, .i1⟩
  | .hbm, ⟨48, _⟩ => ⟨S512, .i1⟩
  | .hbm, ⟨49, _⟩ => ⟨S1x1x512x1, .i1⟩
  | .hbm, ⟨50, _⟩ => ⟨S_, .f32⟩
  | .hbm, ⟨51, _⟩ => ⟨S2x8x512, .f32⟩
  | .hbm, ⟨52, _⟩ => ⟨S2x8x512x1, .f32⟩
  | .hbm, ⟨53, _⟩ => ⟨S_, .f32⟩
  | .hbm, ⟨54, _⟩ => ⟨S_, .f32⟩
  | .hbm, ⟨55, _⟩ => ⟨S2x8x512x1, .i1⟩
  | .hbm, ⟨56, _⟩ => ⟨S2x8x512x1, .f32⟩
  | .hbm, ⟨57, _⟩ => ⟨S2x8x512x1, .f32⟩
  | .hbm, ⟨58, _⟩ => ⟨S2x8x512x2048, .f32⟩
  | .hbm, ⟨59, _⟩ => ⟨S2x8x512x2048, .f32⟩
  | .hbm, ⟨60, _⟩ => ⟨S1x1x512x1, .i1⟩
  | .hbm, ⟨61, _⟩ => ⟨S_, .f32⟩
  | .hbm, ⟨62, _⟩ => ⟨S_, .f32⟩
  | .hbm, ⟨63, _⟩ => ⟨S2x8x512x2048, .i1⟩
  | .hbm, ⟨64, _⟩ => ⟨S2x8x512x2048, .f32⟩
  | .hbm, ⟨65, _⟩ => ⟨S2x8x512x2048, .f32⟩
  | .hbm, ⟨66, _⟩ => ⟨S2x2048x8x64, .f32⟩
  | .hbm, ⟨67, _⟩ => ⟨S2x8x64x512, .f32⟩
  | .hbm, ⟨68, _⟩ => ⟨S2x512x8x64, .f32⟩
  | .hbm, ⟨69, _⟩ => ⟨S2x512x512, .f32⟩
  | .hbm, ⟨70, _⟩ => ⟨S512x768, .f32⟩
  | .hbm, ⟨71, _⟩ => ⟨S2x512x768, .f32⟩
  | _, _ => ⟨S2x512x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_c_0 : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_4 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩

abbrev nD : Nat := 1
abbrev τ : Topo := Topo.v7x

variable {F : FTy → Type} [FloatOps F]
-- ==== Proof.Base.lean ====
/-
# 01_k — the resource algebra of the proof and the kernel's memrefs

The kernel runs once on each of four devices. This module fixes what every other module speaks of: the
resource algebra (the pipeline library's copy and the exchange's own), and the buffers by name.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- The exchange's own copy of the rounds algebra: a duty is named by the device that pays it. -/
abbrev UB : Type := URounds (GSem nD τ sig) (Fin 4)
/-- The pipeline library's copy beside the exchange's. -/
abbrev UU : Type := UR sig nD τ × UB

/-- The staged operands: the hidden states, the query projection, the device's keys and values, the output projection. -/
abbrev xM : Memref sig .tc .vmem S2x512x768 .bf16 := Memref.whole cc0_stg0_0
abbrev wqM : Memref sig .tc .vmem S768x512 .bf16 := Memref.whole cc0_stg1_0
abbrev kM : Memref sig .tc .vmem S2x512x512 .bf16 := Memref.whole cc0_stg2_0
abbrev vM : Memref sig .tc .vmem S2x512x512 .bf16 := Memref.whole cc0_stg3_0
abbrev woM : Memref sig .tc .vmem S512x768 .bf16 := Memref.whole cc0_stg4_0
/-- The staged result. -/
abbrev oM : Memref sig .tc .vmem S2x512x768 .f32 := Memref.whole cc0_stg5_0
/-- The partial results, one buffer per owner of a key block. -/
abbrev p0M : Memref sig .tc .vmem S2x512x640 .bf16 := Memref.whole cc0_scratch0
abbrev p1M : Memref sig .tc .vmem S2x160x640 .bf16 := Memref.whole cc0_scratch1
abbrev p2M : Memref sig .tc .vmem S2x32x640 .bf16 := Memref.whole cc0_scratch2
abbrev p3M : Memref sig .tc .vmem S2x32x640 .bf16 := Memref.whole cc0_scratch3

end Cert.Exchange
-- ==== Proof.Values.lean ====
/-
# 01_k — what the kernel computes, as functions of what it loads

Three accumulators (one per shape of score block), the numerators and denominators a device stores for each
head of each batch, the buffers' targets, and the output a device forms from the four partial buffers. Everything
is stated for a batch `b < 2` and a head `h < 8`, over any float interpretation.
-/
module

public import proofs.«01_k».proof.Proof.Base
public import Idealize.ShloMosaic.Lib.Writes
public import Idealize.ShloMosaic.Lib.ValueIdxCore

@[expose] public section

noncomputable section

namespace Cert.Exchange

open Cert.KernelIdeal Cert.KernelIdeal.Gen

open Idealize.ShloMosaic
open Idealize.ShloMosaic.TcCoe
open Idealize.ShloMosaic.ValueIdx

variable {F : FTy → Type} [FloatOps F] [Named F]

/-! ## Slices and rectangles at a batch and a head -/

theorem slices_q {R : ℕ} (r0 h : ℕ) (hr : r0 + R ≤ 512) (hh : h < 8) :
    S512x512.Slices ![r0, 64 * h] ⟨2, ![R, 64]⟩ :=
  ⟨rfl, fun a => by
    match a with
    | ⟨0, _⟩ => exact hr
    | ⟨1, _⟩ => show 64 * h + 64 ≤ 512; omega⟩

/-- A box of `R` rows from row `r0` and `C` columns from column `c0`, in batch `b`. -/
theorem inb_box {R C M N : ℕ} (b r0 c0 : ℕ) (hb : b < 2) (hr : r0 + R ≤ M) (hc : c0 + C ≤ N) :
    ∀ a, (![b, r0, c0] : Fin 3 → ℕ) a + (⟨3, ![1, R, C]⟩ : Shape).size a ≤ (⟨3, ![2, M, N]⟩ : Shape).size a := fun a => by
  match a with
  | ⟨0, _⟩ => show b + 1 ≤ 2; omega
  | ⟨1, _⟩ => exact hr
  | ⟨2, _⟩ => exact hc

/-- The keys or values of head `h` in batch `b`: their first `R` rows. -/
abbrev kvRect (R b h : ℕ) (hR : R ≤ 512) (hb : b < 2) (hh : h < 8) : Rect S2x512x512 :=
  Rect.unit (s := S2x512x512) ![b, 0, 64 * h] (⟨3, ![1, R, 64]⟩ : Shape).size (inb_box b 0 (64 * h) hb (by omega) (by omega))

/-- The numerators of head `h`, rows `r0` to `r0 + R`, in a partial buffer of `M` rows; -/
abbrev numRect (M R b r0 h : ℕ) (hb : b < 2) (hr : r0 + R ≤ M) (hh : h < 8) : Rect ⟨3, ![2, M, 640]⟩ :=
  Rect.unit (s := ⟨3, ![2, M, 640]⟩) ![b, r0, 64 * h] (⟨3, ![1, R, 64]⟩ : Shape).size (inb_box b r0 (64 * h) hb hr (by omega))
/-- its denominators. -/
abbrev denRect (M R b r0 h : ℕ) (hb : b < 2) (hr : r0 + R ≤ M) (hh : h < 8) : Rect ⟨3, ![2, M, 640]⟩ :=
  Rect.unit (s := ⟨3, ![2, M, 640]⟩) ![b, r0, 512 + h] (⟨3, ![1, R, 1]⟩ : Shape).size (inb_box b r0 (512 + h) hb hr (by omega))

/-- One batch of the hidden states, and one batch of the result. -/
abbrev batchRect (b : ℕ) (hb : b < 2) : Rect S2x512x768 :=
  Rect.unit (s := S2x512x768) ![b, 0, 0] S1x512x768.size (inb_box b 0 0 hb (by omega) (by omega))

/-! ## The queries and the masks -/

/-- The scaled queries of batch `b`. -/
def qry (wq : Vec F S768x512 .bf16) (x : Vec F S2x512x768 .bf16) (b : ℕ) (hb : b < 2) : FVec F S512x512 .bf16 :=
  k0_pay307 wq (xM.view.readAt (Elt F) (batchRect b hb).toLoadRect x)

/-- Two values, one per batch. -/
def perBatch {α : Type} (a₀ a₁ : α) : ℕ → α
  | 0 => a₀
  | _ => a₁

/-- The pattern of owner 0's block: near the diagonal, a leading key or a leading query. -/
def maskA : IVec S512x512 1 := k0_pay312 (iota .tc S512x512 32 [0] iota_S512x512_d0_w32) k0_pay310 k0_pay311

/-! ## The accumulators -/

/-- Scores of 512 queries against 512 keys under a mask, exponentiated, times the values with a column block of ones. -/
def accA (q : FVec F S512x512 .bf16) (msk : IVec S512x512 1) (ones : FVec F S512x64 .bf16) (k v : Vec F S1x512x64 .bf16) (h : ℕ) (hh : h < 8) : FVec F S512x128 .f32 :=
  matmul dot_S512x512_S512x128_S512x128_1_0_0_1_n_n none
    (truncf .bf16 (exp (subf (select msk
        (matmul dot_S512x64_S512x64_S512x512_1_1_0_0_n_n none (extractStridedSlice S512x64 ![0, 64 * h] q (slices_q 0 h (by decide) hh))
          (shapeCast S512x64 k shapeCasts_S1x512x64_S512x64) (constant S512x512 .f32 0x00000000#32))
        (broadcast S512x512 (Named.named κ "mask" 0xCE6E6B28#32)))
      (broadcast S512x512 (Scalar.ofBits .f32 0x41800000#32)))) bitsLt_bf16_f32)
    (concatenate S512x128 1 [⟨S512x64, shapeCast S512x64 v shapeCasts_S1x512x64_S512x64⟩, ⟨S512x64, ones⟩] concatenates_S512x64_S512x64_S512x128_d1)
    (constant S512x128 .f32 0x00000000#32)

/-- Scores of the first 32 queries against 512 keys, unmasked. -/
def accB (q : FVec F S512x512 .bf16) (ones : FVec F S512x64 .bf16) (k v : Vec F S1x512x64 .bf16) (h : ℕ) (hh : h < 8) : FVec F S32x128 .f32 :=
  matmul dot_S32x512_S512x128_S32x128_1_0_0_1_n_n none
    (truncf .bf16 (exp (subf
        (matmul dot_S32x64_S512x64_S32x512_1_1_0_0_n_n none (extractStridedSlice S32x64 ![0, 64 * h] q (slices_q 0 h (by decide) hh))
          (shapeCast S512x64 k shapeCasts_S1x512x64_S512x64) (constant S32x512 .f32 0x00000000#32))
      (broadcast S32x512 (Scalar.ofBits .f32 0x41800000#32)))) bitsLt_bf16_f32)
    (concatenate S512x128 1 [⟨S512x64, shapeCast S512x64 v shapeCasts_S1x512x64_S512x64⟩, ⟨S512x64, ones⟩] concatenates_S512x64_S512x64_S512x128_d1)
    (constant S32x128 .f32 0x00000000#32)

/-- Scores of queries 384 to 511 against the first 128 keys under a mask. -/
def accC (q : FVec F S512x512 .bf16) (msk : IVec S128x128 1) (ones : FVec F S512x64 .bf16) (k v : Vec F S1x128x64 .bf16) (h : ℕ) (hh : h < 8) : FVec F S128x128 .f32 :=
  matmul dot_S128x128_S128x128_S128x128_1_0_0_1_n_n none
    (truncf .bf16 (exp (subf (select msk
        (matmul dot_S128x64_S128x64_S128x128_1_1_0_0_n_n none (extractStridedSlice S128x64 ![384, 64 * h] q (slices_q 384 h (by decide) hh))
          (shapeCast S128x64 k shapeCasts_S1x128x64_S128x64) (constant S128x128 .f32 0x00000000#32))
        (broadcast S128x128 (Named.named κ "mask" 0xCE6E6B28#32)))
      (broadcast S128x128 (Scalar.ofBits .f32 0x41800000#32)))) bitsLt_bf16_f32)
    (concatenate S128x128 1 [⟨S128x64, shapeCast S128x64 v shapeCasts_S1x128x64_S128x64⟩,
      ⟨S128x64, extractStridedSlice S128x64 ![0, 0] ones slices_S512x64_o0_0_S128x64⟩] concatenates_S128x64_S128x64_S128x128_d1)
    (constant S128x128 .f32 0x00000000#32)

/-! ## What a device stores for a head -/

section Heads
variable (q : ℕ → FVec F S512x512 .bf16) (ones : FVec F S512x64 .bf16) (K V : Vec F S2x512x512 .bf16)

/-- The keys of head `h` in batch `b` (all 512, or the first 128), and its values. -/
abbrev kAt (b h : ℕ) (hb : b < 2) (hh : h < 8) : Vec F S1x512x64 .bf16 := kM.view.readAt (Elt F) (kvRect 512 b h (by decide) hb hh).toLoadRect K
abbrev vAt (b h : ℕ) (hb : b < 2) (hh : h < 8) : Vec F S1x512x64 .bf16 := vM.view.readAt (Elt F) (kvRect 512 b h (by decide) hb hh).toLoadRect V
abbrev kLow (b h : ℕ) (hb : b < 2) (hh : h < 8) : Vec F S1x128x64 .bf16 := kM.view.readAt (Elt F) (kvRect 128 b h (by decide) hb hh).toLoadRect K
abbrev vLow (b h : ℕ) (hb : b < 2) (hh : h < 8) : Vec F S1x128x64 .bf16 := vM.view.readAt (Elt F) (kvRect 128 b h (by decide) hb hh).toLoadRect V

/-- Numerators (columns 0 to 63 of the accumulator) and denominators (column 64), for each of the three row counts. -/
def numA (msk : IVec S512x512 1) (b h : ℕ) (hb : b < 2) (hh : h < 8) : Vec F S1x512x64 .bf16 :=
  shapeCast S1x512x64 (truncf .bf16 (extractStridedSlice S512x64 ![0, 0] (accA (q b) msk ones (kAt K b h hb hh) (vAt V b h hb hh) h hh)
    slices_S512x128_o0_0_S512x64) bitsLt_bf16_f32) shapeCasts_S512x64_S1x512x64
def denA (msk : IVec S512x512 1) (b h : ℕ) (hb : b < 2) (hh : h < 8) : Vec F S1x512x1 .bf16 :=
  shapeCast S1x512x1 (truncf .bf16 (extractStridedSlice S512x1 ![0, 64] (accA (q b) msk ones (kAt K b h hb hh) (vAt V b h hb hh) h hh)
    slices_S512x128_o0_64_S512x1) bitsLt_bf16_f32) shapeCasts_S512x1_S1x512x1
def numB (b h : ℕ) (hb : b < 2) (hh : h < 8) : Vec F S1x32x64 .bf16 :=
  shapeCast S1x32x64 (truncf .bf16 (extractStridedSlice S32x64 ![0, 0] (accB (q b) ones (kAt K b h hb hh) (vAt V b h hb hh) h hh)
    slices_S32x128_o0_0_S32x64) bitsLt_bf16_f32) shapeCasts_S32x64_S1x32x64
def denB (b h : ℕ) (hb : b < 2) (hh : h < 8) : Vec F S1x32x1 .bf16 :=
  shapeCast S1x32x1 (truncf .bf16 (extractStridedSlice S32x1 ![0, 64] (accB (q b) ones (kAt K b h hb hh) (vAt V b h hb hh) h hh)
    slices_S32x128_o0_64_S32x1) bitsLt_bf16_f32) shapeCasts_S32x1_S1x32x1
def numC (b h : ℕ) (hb : b < 2) (hh : h < 8) : Vec F S1x128x64 .bf16 :=
  shapeCast S1x128x64 (truncf .bf16 (extractStridedSlice S128x64 ![0, 0] (accC (q b) k0_pay313 ones (kLow K b h hb hh) (vLow V b h hb hh) h hh)
    slices_S128x128_o0_0_S128x64) bitsLt_bf16_f32) shapeCasts_S128x64_S1x128x64
def denC (b h : ℕ) (hb : b < 2) (hh : h < 8) : Vec F S1x128x1 .bf16 :=
  shapeCast S1x128x1 (truncf .bf16 (extractStridedSlice S128x1 ![0, 64] (accC (q b) k0_pay313 ones (kLow K b h hb hh) (vLow V b h hb hh) h hh)
    slices_S128x128_o0_64_S128x1) bitsLt_bf16_f32) shapeCasts_S128x1_S1x128x1

/-- Owner 1's rows: 32 leading queries, then queries 384 to 511. -/
def num1 (b h : ℕ) (hb : b < 2) (hh : h < 8) : Vec F ⟨3, ![1, 160, 64]⟩ .bf16 := fun x =>
  if hx : (x 1).val < 32 then numB q ones K V b h hb hh (ix3 0 ⟨(x 1).val, hx⟩ (x 2))
  else numC q ones K V b h hb hh (ix3 0 ⟨(x 1).val - 32, by have : (x 1).val < 160 := (x 1).isLt; omega⟩ (x 2))
def den1 (b h : ℕ) (hb : b < 2) (hh : h < 8) : Vec F ⟨3, ![1, 160, 1]⟩ .bf16 := fun x =>
  if hx : (x 1).val < 32 then denB q ones K V b h hb hh (ix3 0 ⟨(x 1).val, hx⟩ (x 2))
  else denC q ones K V b h hb hh (ix3 0 ⟨(x 1).val - 32, by have : (x 1).val < 160 := (x 1).isLt; omega⟩ (x 2))

end Heads

/-! ## A partial buffer's contents -/

/-- A partial buffer of `M` rows: head `h`'s numerators at columns `64h` to `64h + 63`, its denominator at column `512 + h`;
    the columns from 520 on are never read. -/
def layout (M : ℕ) (num : ∀ b h : ℕ, b < 2 → h < 8 → Vec F ⟨3, ![1, M, 64]⟩ .bf16) (den : ∀ b h : ℕ, b < 2 → h < 8 → Vec F ⟨3, ![1, M, 1]⟩ .bf16) :
    Vec F ⟨3, ![2, M, 640]⟩ .bf16 := fun y =>
  if hn : (y 2).val < 512 then num (y 0).val ((y 2).val / 64) (y 0).isLt (by omega) (ix3 0 (y 1) ⟨(y 2).val % 64, by omega⟩)
  else if hd : (y 2).val < 520 then den (y 0).val ((y 2).val - 512) (y 0).isLt (by omega) (ix3 0 (y 1) 0)
  else Scalar.ofBits .bf16 0#16

/-- The pieces stored by a device, the latest first: head by head, batch by batch. -/
def heads {β : Type} (mk : ∀ b h : ℕ, b < 2 → h < 8 → List β) : ∀ n, n ≤ 16 → List β
  | 0, _ => []
  | n + 1, hn => mk (n / 8) (n % 8) (by omega) (by omega) ++ heads mk n (by omega)

theorem mem_heads {β : Type} (mk : ∀ b h : ℕ, b < 2 → h < 8 → List β) (p : β) :
    ∀ n (hn : n ≤ 16), p ∈ heads mk n hn ↔ ∃ i, ∃ hi : i < n, p ∈ mk (i / 8) (i % 8) (by omega) (by omega)
  | 0, _ => by simp [heads]
  | n + 1, hn => by
    rw [heads, List.mem_append, mem_heads mk p n (by omega)]
    constructor
    · rintro (h | ⟨i, hi, h⟩)
      · exact ⟨n, by omega, h⟩
      · exact ⟨i, by omega, h⟩
    · rintro ⟨i, hi, h⟩
      by_cases e : i = n
      · subst e; exact .inl h
      · exact .inr ⟨i, by omega, h⟩

section Layout
variable {M : ℕ} (num : ∀ b h : ℕ, b < 2 → h < 8 → Vec F ⟨3, ![1, M, 64]⟩ .bf16) (den : ∀ b h : ℕ, b < 2 → h < 8 → Vec F ⟨3, ![1, M, 1]⟩ .bf16)

theorem layout_num {R b r0 h : ℕ} (hb : b < 2) (hr : r0 + R ≤ M) (hh : h < 8) (x : (⟨3, ![1, R, 64]⟩ : Shape).Idx) :
    layout M num den ((numRect M R b r0 h hb hr hh).emb x)
      = num b h hb hh (ix3 0 ⟨r0 + (x 1).val, by have : (x 1).val < R := (x 1).isLt; omega⟩ (x 2)) := by
  have h0 : (x 0).val < 1 := (x 0).isLt
  have h2 : (x 2).val < 64 := (x 2).isLt
  have e0 : ((numRect M R b r0 h hb hr hh).emb x 0).val = b := by show b + 1 * (x 0).val = b; omega
  have e1 : ((numRect M R b r0 h hb hr hh).emb x 1).val = r0 + (x 1).val := by show r0 + 1 * (x 1).val = _; omega
  have e2 : ((numRect M R b r0 h hb hr hh).emb x 2).val = 64 * h + (x 2).val := by show 64 * h + 1 * (x 2).val = _; omega
  have key : ∀ (b' h' : ℕ) (hb' : b' < 2) (hh' : h' < 8) (j j' : (⟨3, ![1, M, 64]⟩ : Shape).Idx), b' = b → h' = h → j = j' →
      num b' h' hb' hh' j = num b h hb hh j' := by rintro _ _ _ _ _ _ rfl rfl rfl; rfl
  unfold layout
  rw [dif_pos (by rw [e2]; omega)]
  refine key _ _ _ _ _ _ e0 (by rw [e2]; omega) ?_
  funext a
  match a with
  | ⟨0, _⟩ => rfl
  | ⟨1, _⟩ => exact Fin.ext e1
  | ⟨2, _⟩ => exact Fin.ext (by show ((numRect M R b r0 h hb hr hh).emb x 2).val % 64 = (x 2).val; rw [e2]; omega)

theorem layout_den {R b r0 h : ℕ} (hb : b < 2) (hr : r0 + R ≤ M) (hh : h < 8) (x : (⟨3, ![1, R, 1]⟩ : Shape).Idx) :
    layout M num den ((denRect M R b r0 h hb hr hh).emb x)
      = den b h hb hh (ix3 0 ⟨r0 + (x 1).val, by have : (x 1).val < R := (x 1).isLt; omega⟩ (x 2)) := by
  have h0 : (x 0).val < 1 := (x 0).isLt
  have h2 : (x 2).val < 1 := (x 2).isLt
  have e0 : ((denRect M R b r0 h hb hr hh).emb x 0).val = b := by show b + 1 * (x 0).val = b; omega
  have e1 : ((denRect M R b r0 h hb hr hh).emb x 1).val = r0 + (x 1).val := by show r0 + 1 * (x 1).val = _; omega
  have e2 : ((denRect M R b r0 h hb hr hh).emb x 2).val = 512 + h := by show 512 + h + 1 * (x 2).val = _; omega
  have key : ∀ (b' h' : ℕ) (hb' : b' < 2) (hh' : h' < 8) (j j' : (⟨3, ![1, M, 1]⟩ : Shape).Idx), b' = b → h' = h → j = j' →
      den b' h' hb' hh' j = den b h hb hh j' := by rintro _ _ _ _ _ _ rfl rfl rfl; rfl
  unfold layout
  rw [dif_neg (by rw [e2]; omega), dif_pos (by rw [e2]; omega)]
  refine key _ _ _ _ _ _ e0 (by rw [e2]; omega) ?_
  funext a
  match a with
  | ⟨0, _⟩ => rfl
  | ⟨1, _⟩ => exact Fin.ext e1
  | ⟨2, _⟩ => exact Fin.ext (by show 0 = (x 2).val; omega)

end Layout

/-! ## The pieces each owner stores -/

section Pieces
variable (q : ℕ → FVec F S512x512 .bf16) (ones : FVec F S512x64 .bf16) (K V : Vec F S2x512x512 .bf16)

def pieceA (msk : IVec S512x512 1) (b h : ℕ) (hb : b < 2) (hh : h < 8) : List (View.Piece (Elt F) S2x512x640 .bf16) :=
  [⟨denRect 512 512 b 0 h hb (by decide) hh, denA q ones K V msk b h hb hh⟩, ⟨numRect 512 512 b 0 h hb (by decide) hh, numA q ones K V msk b h hb hh⟩]
def pieceB (b h : ℕ) (hb : b < 2) (hh : h < 8) : List (View.Piece (Elt F) S2x32x640 .bf16) :=
  [⟨denRect 32 32 b 0 h hb (by decide) hh, denB q ones K V b h hb hh⟩, ⟨numRect 32 32 b 0 h hb (by decide) hh, numB q ones K V b h hb hh⟩]
def piece1 (b h : ℕ) (hb : b < 2) (hh : h < 8) : List (View.Piece (Elt F) S2x160x640 .bf16) :=
  [⟨denRect 160 128 b 32 h hb (by decide) hh, denC q ones K V b h hb hh⟩, ⟨numRect 160 128 b 32 h hb (by decide) hh, numC q ones K V b h hb hh⟩,
   ⟨denRect 160 32 b 0 h hb (by decide) hh, denB q ones K V b h hb hh⟩, ⟨numRect 160 32 b 0 h hb (by decide) hh, numB q ones K V b h hb hh⟩]

/-- The contents aimed at: owner 0's buffer, owners 2 and 3's, owner 1's. -/
def tgtA (msk : IVec S512x512 1) : Vec F S2x512x640 .bf16 := layout 512 (numA q ones K V msk) (denA q ones K V msk)
def tgtB : Vec F S2x32x640 .bf16 := layout 32 (numB q ones K V) (denB q ones K V)
def tgt1 : Vec F S2x160x640 .bf16 := layout 160 (num1 q ones K V) (den1 q ones K V)

/-- An index whose row `R` rows of a box cover, as the index of the box's element. -/
theorem mem_numRect {M R b r0 h : ℕ} (hb : b < 2) (hr : r0 + R ≤ M) (hh : h < 8) (y : (⟨3, ![2, M, 640]⟩ : Shape).Idx)
    (h0 : (y 0).val = b) (h1 : r0 ≤ (y 1).val) (h1' : (y 1).val < r0 + R) (h2 : 64 * h ≤ (y 2).val) (h2' : (y 2).val < 64 * h + 64) :
    y ∈ (numRect M R b r0 h hb hr hh).set := by
  refine (LoadRect.mem_set _).mpr fun a => ?_
  match a with
  | ⟨0, _⟩ => exact ⟨0, Nat.one_pos, by show (y 0).val = b + 1 * 0; omega⟩
  | ⟨1, _⟩ => exact ⟨(y 1).val - r0, by show _ < R; omega, by show (y 1).val = r0 + 1 * ((y 1).val - r0); omega⟩
  | ⟨2, _⟩ => exact ⟨(y 2).val - 64 * h, by show _ < 64; omega, by show (y 2).val = 64 * h + 1 * ((y 2).val - 64 * h); omega⟩
theorem mem_denRect {M R b r0 h : ℕ} (hb : b < 2) (hr : r0 + R ≤ M) (hh : h < 8) (y : (⟨3, ![2, M, 640]⟩ : Shape).Idx)
    (h0 : (y 0).val = b) (h1 : r0 ≤ (y 1).val) (h1' : (y 1).val < r0 + R) (h2 : (y 2).val = 512 + h) :
    y ∈ (denRect M R b r0 h hb hr hh).set := by
  refine (LoadRect.mem_set _).mpr fun a => ?_
  match a with
  | ⟨0, _⟩ => exact ⟨0, Nat.one_pos, by show (y 0).val = b + 1 * 0; omega⟩
  | ⟨1, _⟩ => exact ⟨(y 1).val - r0, by show _ < R; omega, by show (y 1).val = r0 + 1 * ((y 1).val - r0); omega⟩
  | ⟨2, _⟩ => exact ⟨0, Nat.one_pos, by show (y 2).val = 512 + h + 1 * 0; omega⟩

/-- Where a device's pieces agree with one function and cover the columns below 520, the buffer reads that function there. -/
theorem reads_of_heads {M : ℕ} {G : Vec F ⟨3, ![2, M, 640]⟩ .bf16} {mk : ∀ b h : ℕ, b < 2 → h < 8 → List (View.Piece (Elt F) ⟨3, ![2, M, 640]⟩ .bf16)}
    (hG : ∀ b h hb hh, ∀ p ∈ mk b h hb hh, ∀ x, p.2 x = G (p.1.emb x))
    (hcov : ∀ b h hb hh (y : (⟨3, ![2, M, 640]⟩ : Shape).Idx), (y 0).val = b →
      ((64 * h ≤ (y 2).val ∧ (y 2).val < 64 * h + 64) ∨ (y 2).val = 512 + h) → ∃ p ∈ mk b h hb hh, y ∈ p.1.set)
    {κ sp} (v : View sig κ sp ⟨3, ![2, M, 640]⟩ .bf16) (f : v.ty.Contents (Elt F))
    (y : (⟨3, ![2, M, 640]⟩ : Shape).Idx) (hy : (y 2).val < 520) :
    v.read (Elt F) (v.writes (Elt F) f (heads mk 16 (le_refl _))) y = G y := by
  refine View.read_writes_apply_of_pieces v f G _ (fun p hp => ?_) y ?_
  · obtain ⟨i, hi, hp⟩ := (mem_heads mk p 16 _).mp hp
    exact hG _ _ _ _ p hp
  · have h0 : (y 0).val < 2 := (y 0).isLt
    by_cases h2 : (y 2).val < 512
    · obtain ⟨p, hp, hm⟩ := hcov ((8 * (y 0).val + (y 2).val / 64) / 8) ((8 * (y 0).val + (y 2).val / 64) % 8) (by omega) (by omega) y (by omega) (.inl (by omega))
      exact ⟨p, (mem_heads mk p 16 _).mpr ⟨8 * (y 0).val + (y 2).val / 64, by omega, hp⟩, hm⟩
    · obtain ⟨p, hp, hm⟩ := hcov ((8 * (y 0).val + ((y 2).val - 512)) / 8) ((8 * (y 0).val + ((y 2).val - 512)) % 8) (by omega) (by omega) y (by omega) (.inr (by omega))
      exact ⟨p, (mem_heads mk p 16 _).mpr ⟨8 * (y 0).val + ((y 2).val - 512), by omega, hp⟩, hm⟩

theorem ix3_unit {R C : ℕ} (x : (⟨3, ![1, R, C]⟩ : Shape).Idx) (j : Fin R) (hj : j.val = (x 1).val) : ix3 0 j (x 2) = x := by
  funext a
  match a with
  | ⟨0, _⟩ => exact Fin.ext (by show 0 = (x 0).val; have : (x 0).val < 1 := (x 0).isLt; omega)
  | ⟨1, _⟩ => exact Fin.ext hj
  | ⟨2, _⟩ => rfl

theorem agreesA (msk : IVec S512x512 1) (b h : ℕ) (hb : b < 2) (hh : h < 8) :
    ∀ p ∈ pieceA q ones K V msk b h hb hh, ∀ x, p.2 x = tgtA q ones K V msk (p.1.emb x) := by
  intro p hp x
  simp only [pieceA, List.mem_cons, List.not_mem_nil, or_false] at hp
  rcases hp with rfl | rfl
  · exact ((layout_den (numA q ones K V msk) (denA q ones K V msk) hb (by decide) hh x).trans (congrArg _ (ix3_unit x _ (Nat.zero_add _)))).symm
  · exact ((layout_num (numA q ones K V msk) (denA q ones K V msk) hb (by decide) hh x).trans (congrArg _ (ix3_unit x _ (Nat.zero_add _)))).symm

theorem coversA (msk : IVec S512x512 1) (b h : ℕ) (hb : b < 2) (hh : h < 8) (y : S2x512x640.Idx) (h0 : (y 0).val = b)
    (h2 : (64 * h ≤ (y 2).val ∧ (y 2).val < 64 * h + 64) ∨ (y 2).val = 512 + h) : ∃ p ∈ pieceA q ones K V msk b h hb hh, y ∈ p.1.set := by
  have h1 : (y 1).val < 512 := (y 1).isLt
  rcases h2 with h2 | h2
  · exact ⟨_, List.mem_cons_of_mem _ List.mem_cons_self, mem_numRect hb (by decide) hh y h0 (by omega) (by omega) h2.1 h2.2⟩
  · exact ⟨_, List.mem_cons_self, mem_denRect hb (by decide) hh y h0 (by omega) (by omega) h2⟩

theorem agreesB (b h : ℕ) (hb : b < 2) (hh : h < 8) :
    ∀ p ∈ pieceB q ones K V b h hb hh, ∀ x, p.2 x = tgtB q ones K V (p.1.emb x) := by
  intro p hp x
  simp only [pieceB, List.mem_cons, List.not_mem_nil, or_false] at hp
  rcases hp with rfl | rfl
  · exact ((layout_den (numB q ones K V) (denB q ones K V) hb (by decide) hh x).trans (congrArg _ (ix3_unit x _ (Nat.zero_add _)))).symm
  · exact ((layout_num (numB q ones K V) (denB q ones K V) hb (by decide) hh x).trans (congrArg _ (ix3_unit x _ (Nat.zero_add _)))).symm

theorem coversB (b h : ℕ) (hb : b < 2) (hh : h < 8) (y : S2x32x640.Idx) (h0 : (y 0).val = b)
    (h2 : (64 * h ≤ (y 2).val ∧ (y 2).val < 64 * h + 64) ∨ (y 2).val = 512 + h) : ∃ p ∈ pieceB q ones K V b h hb hh, y ∈ p.1.set := by
  have h1 : (y 1).val < 32 := (y 1).isLt
  rcases h2 with h2 | h2
  · exact ⟨_, List.mem_cons_of_mem _ List.mem_cons_self, mem_numRect hb (by decide) hh y h0 (by omega) (by omega) h2.1 h2.2⟩
  · exact ⟨_, List.mem_cons_self, mem_denRect hb (by decide) hh y h0 (by omega) (by omega) h2⟩

theorem num1_low (b h : ℕ) (hb : b < 2) (hh : h < 8) (x : S1x32x64.Idx) (j : Fin 160) (hj : j.val = (x 1).val) :
    num1 q ones K V b h hb hh (ix3 0 j (x 2)) = numB q ones K V b h hb hh x := by
  have h1 : (x 1).val < 32 := (x 1).isLt
  unfold num1
  rw [dif_pos (by show j.val < 32; omega)]
  exact congrArg _ (ix3_unit x _ hj)
theorem num1_high (b h : ℕ) (hb : b < 2) (hh : h < 8) (x : S1x128x64.Idx) (j : Fin 160) (hj : j.val = 32 + (x 1).val) :
    num1 q ones K V b h hb hh (ix3 0 j (x 2)) = numC q ones K V b h hb hh x := by
  unfold num1
  rw [dif_neg (by show ¬ j.val < 32; omega)]
  exact congrArg _ (ix3_unit x _ (by show j.val - 32 = _; omega))
theorem den1_low (b h : ℕ) (hb : b < 2) (hh : h < 8) (x : S1x32x1.Idx) (j : Fin 160) (hj : j.val = (x 1).val) :
    den1 q ones K V b h hb hh (ix3 0 j (x 2)) = denB q ones K V b h hb hh x := by
  have h1 : (x 1).val < 32 := (x 1).isLt
  unfold den1
  rw [dif_pos (by show j.val < 32; omega)]
  exact congrArg _ (ix3_unit x _ hj)
theorem den1_high (b h : ℕ) (hb : b < 2) (hh : h < 8) (x : S1x128x1.Idx) (j : Fin 160) (hj : j.val = 32 + (x 1).val) :
    den1 q ones K V b h hb hh (ix3 0 j (x 2)) = denC q ones K V b h hb hh x := by
  unfold den1
  rw [dif_neg (by show ¬ j.val < 32; omega)]
  exact congrArg _ (ix3_unit x _ (by show j.val - 32 = _; omega))

theorem agrees1 (b h : ℕ) (hb : b < 2) (hh : h < 8) :
    ∀ p ∈ piece1 q ones K V b h hb hh, ∀ x, p.2 x = tgt1 q ones K V (p.1.emb x) := by
  intro p hp x
  simp only [piece1, List.mem_cons, List.not_mem_nil, or_false] at hp
  rcases hp with rfl | rfl | rfl | rfl
  · exact ((layout_den _ _ hb (by decide) hh x).trans (den1_high q ones K V b h hb hh x _ rfl)).symm
  · exact ((layout_num _ _ hb (by decide) hh x).trans (num1_high q ones K V b h hb hh x _ rfl)).symm
  · exact ((layout_den _ _ hb (by decide) hh x).trans (den1_low q ones K V b h hb hh x _ (Nat.zero_add _))).symm
  · exact ((layout_num _ _ hb (by decide) hh x).trans (num1_low q ones K V b h hb hh x _ (Nat.zero_add _))).symm

theorem covers1 (b h : ℕ) (hb : b < 2) (hh : h < 8) (y : S2x160x640.Idx) (h0 : (y 0).val = b)
    (h2 : (64 * h ≤ (y 2).val ∧ (y 2).val < 64 * h + 64) ∨ (y 2).val = 512 + h) : ∃ p ∈ piece1 q ones K V b h hb hh, y ∈ p.1.set := by
  have h1 : (y 1).val < 160 := (y 1).isLt
  by_cases hlow : (y 1).val < 32
  · rcases h2 with h2 | h2
    · exact ⟨_, List.mem_cons_of_mem _ (List.mem_cons_of_mem _ (List.mem_cons_of_mem _ List.mem_cons_self)),
        mem_numRect hb (by decide) hh y h0 (by omega) (by omega) h2.1 h2.2⟩
    · exact ⟨_, List.mem_cons_of_mem _ (List.mem_cons_of_mem _ List.mem_cons_self), mem_denRect hb (by decide) hh y h0 (by omega) (by omega) h2⟩
  · rcases h2 with h2 | h2
    · exact ⟨_, List.mem_cons_of_mem _ List.mem_cons_self, mem_numRect hb (by decide) hh y h0 (by omega) (by omega) h2.1 h2.2⟩
    · exact ⟨_, List.mem_cons_self, mem_denRect hb (by decide) hh y h0 (by omega) (by omega) h2⟩

end Pieces

/-! ## The output -/

section Output
variable (f0 : Vec F S2x512x640 .bf16) (f1 : Vec F S2x160x640 .bf16) (f2 f3 : Vec F S2x32x640 .bf16)

/-- Loads from the four partial buffers. -/
abbrev n0At (R r0 b h : ℕ) (hr : r0 + R ≤ 512) (hb : b < 2) (hh : h < 8) : Vec F ⟨3, ![1, R, 64]⟩ .bf16 :=
  p0M.view.readAt (Elt F) (numRect 512 R b r0 h hb hr hh).toLoadRect f0
abbrev d0At (R r0 b h : ℕ) (hr : r0 + R ≤ 512) (hb : b < 2) (hh : h < 8) : Vec F ⟨3, ![1, R, 1]⟩ .bf16 :=
  p0M.view.readAt (Elt F) (denRect 512 R b r0 h hb hr hh).toLoadRect f0
abbrev n1At (R r0 b h : ℕ) (hr : r0 + R ≤ 160) (hb : b < 2) (hh : h < 8) : Vec F ⟨3, ![1, R, 64]⟩ .bf16 :=
  p1M.view.readAt (Elt F) (numRect 160 R b r0 h hb hr hh).toLoadRect f1
abbrev d1At (R r0 b h : ℕ) (hr : r0 + R ≤ 160) (hb : b < 2) (hh : h < 8) : Vec F ⟨3, ![1, R, 1]⟩ .bf16 :=
  p1M.view.readAt (Elt F) (denRect 160 R b r0 h hb hr hh).toLoadRect f1
abbrev n2At (b h : ℕ) (hb : b < 2) (hh : h < 8) : Vec F S1x32x64 .bf16 := p2M.view.readAt (Elt F) (numRect 32 32 b 0 h hb (by decide) hh).toLoadRect f2
abbrev d2At (b h : ℕ) (hb : b < 2) (hh : h < 8) : Vec F S1x32x1 .bf16 := p2M.view.readAt (Elt F) (denRect 32 32 b 0 h hb (by decide) hh).toLoadRect f2
abbrev n3At (b h : ℕ) (hb : b < 2) (hh : h < 8) : Vec F S1x32x64 .bf16 := p3M.view.readAt (Elt F) (numRect 32 32 b 0 h hb (by decide) hh).toLoadRect f3
abbrev d3At (b h : ℕ) (hb : b < 2) (hh : h < 8) : Vec F S1x32x1 .bf16 := p3M.view.readAt (Elt F) (denRect 32 32 b 0 h hb (by decide) hh).toLoadRect f3

/-- The context of head `h` in batch `b`: the sums of numerators over the sums of denominators, for the 32 leading rows,
    the 352 rows only owner 0 has, and the last 128. -/
def ctxHead (b h : ℕ) (hb : b < 2) (hh : h < 8) : FVec F S512x64 .bf16 :=
  k0_pay331
    (k0_pay327 (n0At f0 128 384 b h (by decide) hb hh) (n1At f1 128 32 b h (by decide) hb hh))
    (k0_pay328 (d0At f0 128 384 b h (by decide) hb hh) (d1At f1 128 32 b h (by decide) hb hh))
    (k0_pay329 (k0_pay325 (n0At f0 32 0 b h (by decide) hb hh) (n1At f1 32 0 b h (by decide) hb hh) (n2At f2 b h hb hh) (n3At f3 b h hb hh))
      (k0_pay326 (d0At f0 32 0 b h (by decide) hb hh)) (d1At f1 32 0 b h (by decide) hb hh) (d2At f2 b h hb hh) (d3At f3 b h hb hh))
    (k0_pay330 (n0At f0 352 32 b h (by decide) hb hh) (d0At f0 352 32 b h (by decide) hb hh))

/-- One batch of the result from its heads' contexts: them side by side, times the output projection. -/
def outBatchOf (ctx : ∀ h, h < 8 → FVec F S512x64 .bf16) (wo : Vec F S512x768 .bf16) : Vec F S1x512x768 .f32 :=
  shapeCast S1x512x768 (matmul dot_S512x512_S512x768_S512x768_1_0_0_1_n_n none
    (concatenate S512x512 1 [⟨S512x64, ctx 0 (by decide)⟩, ⟨S512x64, ctx 1 (by decide)⟩, ⟨S512x64, ctx 2 (by decide)⟩, ⟨S512x64, ctx 3 (by decide)⟩,
      ⟨S512x64, ctx 4 (by decide)⟩, ⟨S512x64, ctx 5 (by decide)⟩, ⟨S512x64, ctx 6 (by decide)⟩, ⟨S512x64, ctx 7 (by decide)⟩]
      concatenates_S512x64_S512x64_S512x64_S512x64_S512x64_S512x64_S512x64_S512x64_S512x512_d1)
    (k0_pay324 wo) (constant S512x768 .f32 0x00000000#32)) shapeCasts_S512x768_S1x512x768

/-- One batch of the result. -/
def outBatch (wo : Vec F S512x768 .bf16) (b : ℕ) (hb : b < 2) : Vec F S1x512x768 .f32 :=
  outBatchOf (fun h hh => ctxHead f0 f1 f2 f3 b h hb hh) wo

/-- The result. -/
def outOf (wo : Vec F S512x768 .bf16) : Vec F S2x512x768 .f32 := fun y =>
  outBatch f0 f1 f2 f3 wo (y 0).val (y 0).isLt (ix3 0 (y 1) (y 2))

/-- The pieces of the result, the latest first. -/
def outPieces (wo : Vec F S512x768 .bf16) : List (View.Piece (Elt F) S2x512x768 .f32) :=
  [⟨batchRect 1 (by decide), outBatch f0 f1 f2 f3 wo 1 (by decide)⟩, ⟨batchRect 0 (by decide), outBatch f0 f1 f2 f3 wo 0 (by decide)⟩]

theorem outOf_emb (wo : Vec F S512x768 .bf16) (b : ℕ) (hb : b < 2) (x : S1x512x768.Idx) :
    outBatch f0 f1 f2 f3 wo b hb x = outOf f0 f1 f2 f3 wo ((batchRect b hb).emb x) := by
  have h0 : (x 0).val < 1 := (x 0).isLt
  have key : ∀ (b' : ℕ) (hb' : b' < 2) (j : S1x512x768.Idx), b' = b → j = x → outBatch f0 f1 f2 f3 wo b hb x = outBatch f0 f1 f2 f3 wo b' hb' j := by
    rintro _ _ _ rfl rfl; rfl
  refine key _ _ _ (by show b + 1 * (x 0).val = b; omega) ?_
  funext a
  match a with
  | ⟨0, _⟩ => exact Fin.ext (by show 0 = (x 0).val; omega)
  | ⟨1, _⟩ => exact Fin.ext (by show 0 + 1 * (x 1).val = (x 1).val; omega)
  | ⟨2, _⟩ => exact Fin.ext (by show 0 + 1 * (x 2).val = (x 2).val; omega)

theorem mem_batchRect (y : S2x512x768.Idx) : y ∈ (batchRect (y 0).val (y 0).isLt).set := by
  refine (LoadRect.mem_set _).mpr fun a => ?_
  match a with
  | ⟨0, _⟩ => exact ⟨0, Nat.one_pos, by show (y 0).val = (y 0).val + 1 * 0; omega⟩
  | ⟨1, _⟩ => exact ⟨(y 1).val, (y 1).isLt, by show (y 1).val = 0 + 1 * (y 1).val; omega⟩
  | ⟨2, _⟩ => exact ⟨(y 2).val, (y 2).isLt, by show (y 2).val = 0 + 1 * (y 2).val; omega⟩

theorem mem_batchRect_of (b : ℕ) (hb : b < 2) (y : S2x512x768.Idx) (h : (y 0).val = b) : y ∈ (batchRect b hb).set := by
  subst h; exact mem_batchRect y

theorem outPieces_agree (wo : Vec F S512x768 .bf16) :
    ∀ p ∈ outPieces f0 f1 f2 f3 wo, ∀ x, p.2 x = outOf f0 f1 f2 f3 wo (p.1.emb x) := by
  intro p hp
  rw [outPieces, List.mem_cons, List.mem_singleton] at hp
  rcases hp with rfl | rfl
  · exact outOf_emb f0 f1 f2 f3 wo 1 (by decide)
  · exact outOf_emb f0 f1 f2 f3 wo 0 (by decide)

theorem outPieces_cover (wo : Vec F S512x768 .bf16) (y : S2x512x768.Idx) : ∃ p ∈ outPieces f0 f1 f2 f3 wo, y ∈ p.1.set := by
  have h0 : (y 0).val < 2 := (y 0).isLt
  rcases (by omega : (y 0).val = 1 ∨ (y 0).val = 0) with e | e
  · exact ⟨⟨batchRect 1 (by decide), outBatch f0 f1 f2 f3 wo 1 (by decide)⟩, List.mem_cons_self, mem_batchRect_of 1 (by decide) y e⟩
  · exact ⟨⟨batchRect 0 (by decide), outBatch f0 f1 f2 f3 wo 0 (by decide)⟩, List.mem_cons_of_mem _ List.mem_cons_self, mem_batchRect_of 0 (by decide) y e⟩

theorem out_read (wo : Vec F S512x768 .bf16) (f : Vec F S2x512x768 .f32) :
    oM.view.read (Elt F) (oM.view.writes (Elt F) f (outPieces f0 f1 f2 f3 wo)) = outOf f0 f1 f2 f3 wo :=
  funext fun y => View.read_writes_apply_of_pieces oM.view f (outOf f0 f1 f2 f3 wo) (outPieces f0 f1 f2 f3 wo)
    (outPieces_agree f0 f1 f2 f3 wo) y (outPieces_cover f0 f1 f2 f3 wo y)

theorem read_oM (g : Vec F S2x512x768 .f32) : oM.view.read (Elt F) g = g := rfl

theorem out_written (wo : Vec F S512x768 .bf16) (f : Vec F S2x512x768 .f32) :
    oM.view.writes (Elt F) f (outPieces f0 f1 f2 f3 wo) = outOf f0 f1 f2 f3 wo :=
  (read_oM _).symm.trans (out_read f0 f1 f2 f3 wo f)

end Output

/-! ## Contents that agree below column 520 give the same output -/

/-- Two contents of a partial buffer that agree on the columns the output reads. -/
def SameCols {M : ℕ} (f g : Vec F ⟨3, ![2, M, 640]⟩ .bf16) : Prop := ∀ y : (⟨3, ![2, M, 640]⟩ : Shape).Idx, (y 2).val < 520 → f y = g y

theorem SameCols.num {M : ℕ} {f g : Vec F ⟨3, ![2, M, 640]⟩ .bf16} (hfg : SameCols f g) (R b r0 h : ℕ) (hb : b < 2) (hr : r0 + R ≤ M) (hh : h < 8) :
    (fun x => f ((numRect M R b r0 h hb hr hh).idx x)) = fun x => g ((numRect M R b r0 h hb hr hh).idx x) :=
  funext fun x => hfg _ (by
    have : (x 2).val < 64 := (x 2).isLt
    show 64 * h + 1 * (x 2).val < 520; omega)
theorem SameCols.den {M : ℕ} {f g : Vec F ⟨3, ![2, M, 640]⟩ .bf16} (hfg : SameCols f g) (R b r0 h : ℕ) (hb : b < 2) (hr : r0 + R ≤ M) (hh : h < 8) :
    (fun x => f ((denRect M R b r0 h hb hr hh).idx x)) = fun x => g ((denRect M R b r0 h hb hr hh).idx x) :=
  funext fun x => hfg _ (by
    have : (x 2).val < 1 := (x 2).isLt
    show 512 + h + 1 * (x 2).val < 520; omega)

theorem ctxHead_congr {f0 g0 : Vec F S2x512x640 .bf16} {f1 g1 : Vec F S2x160x640 .bf16} {f2 g2 f3 g3 : Vec F S2x32x640 .bf16}
    (h0 : SameCols f0 g0) (h1 : SameCols f1 g1) (h2 : SameCols f2 g2) (h3 : SameCols f3 g3) (b h : ℕ) (hb : b < 2) (hh : h < 8) :
    ctxHead f0 f1 f2 f3 b h hb hh = ctxHead g0 g1 g2 g3 b h hb hh := by
  have a0 : ∀ R r0 hr, n0At f0 R r0 b h hr hb hh = n0At g0 R r0 b h hr hb hh := fun R r0 hr => h0.num R b r0 h hb hr hh
  have b0 : ∀ R r0 hr, d0At f0 R r0 b h hr hb hh = d0At g0 R r0 b h hr hb hh := fun R r0 hr => h0.den R b r0 h hb hr hh
  have a1 : ∀ R r0 hr, n1At f1 R r0 b h hr hb hh = n1At g1 R r0 b h hr hb hh := fun R r0 hr => h1.num R b r0 h hb hr hh
  have b1 : ∀ R r0 hr, d1At f1 R r0 b h hr hb hh = d1At g1 R r0 b h hr hb hh := fun R r0 hr => h1.den R b r0 h hb hr hh
  have a2 : n2At f2 b h hb hh = n2At g2 b h hb hh := h2.num 32 b 0 h hb (by decide) hh
  have b2 : d2At f2 b h hb hh = d2At g2 b h hb hh := h2.den 32 b 0 h hb (by decide) hh
  have a3 : n3At f3 b h hb hh = n3At g3 b h hb hh := h3.num 32 b 0 h hb (by decide) hh
  have b3 : d3At f3 b h hb hh = d3At g3 b h hb hh := h3.den 32 b 0 h hb (by decide) hh
  unfold ctxHead
  rw [a0, a0, a0, b0, b0, b0, a1, a1, b1, b1, a2, b2, a3, b3]

theorem outOf_congr {f0 g0 : Vec F S2x512x640 .bf16} {f1 g1 : Vec F S2x160x640 .bf16} {f2 g2 f3 g3 : Vec F S2x32x640 .bf16}
    (h0 : SameCols f0 g0) (h1 : SameCols f1 g1) (h2 : SameCols f2 g2) (h3 : SameCols f3 g3) (wo : Vec F S512x768 .bf16) :
    outOf f0 f1 f2 f3 wo = outOf g0 g1 g2 g3 wo := by
  funext y
  unfold outOf outBatch
  exact congrFun (congrArg (fun ctx => outBatchOf ctx wo)
    (funext fun h => funext fun hh => ctxHead_congr h0 h1 h2 h3 (y 0).val h (y 0).isLt hh)) _

end Cert.Exchange
-- ==== Proof.Protocol.lean ====
/-
# 01_k — the exchange's protocol

Each device first tells the three others that its four partial buffers may be written, and waits for the three of them.
It then computes the partial results its own keys give and sends them to the three others, waits for the partial results
of the three others, adds everything up, and at the end waits until its own three transfers have been read out.

A device has eight semaphore cells: the runtime's barrier (0), one send cell per transfer (1 to 3), one receive cell per
owner of a partial buffer (4 to 7; the one for its own buffer is never used). Every cell has one round. What is handed over:

* a signal of device `d` to device `c`: `d`'s buffer for `c`'s partial results, at any contents;
* a landing on device `d` of owner `s`'s partial results: that buffer, holding what `s` computed;
* a transfer read out: the share of the source buffer it was reading.
-/
module

public import proofs.«01_k».proof.Proof.Values

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

abbrev ER : Emb UB (MT nD τ sig Unit (Elt F) ℕ UU ℕ) := embR
abbrev 𝒱₀ : Variants := Variants.none

variable (m : (ℓ : Loc nD τ sig) → Buf (Elt F) ℓ)

/-! ## The staged operands of a device, and the contents its partial buffer is to hold -/

def xstg (c : Dev nD) : Vec F S2x512x768 .bf16 := (win0_0.blk (0 : Fin 1)).view.read (Elt F) (m ((c : Thread nD τ).loc main_arg0))
def wqstg (c : Dev nD) : Vec F S768x512 .bf16 := (win0_1.blk (0 : Fin 1)).view.read (Elt F) (m ((c : Thread nD τ).loc main_arg1))
def kstg (c : Dev nD) : Vec F S2x512x512 .bf16 := (win0_2.blk (0 : Fin 1)).view.read (Elt F) (m ((c : Thread nD τ).loc main_arg2))
def vstg (c : Dev nD) : Vec F S2x512x512 .bf16 := (win0_3.blk (0 : Fin 1)).view.read (Elt F) (m ((c : Thread nD τ).loc main_arg3))
def wostg (c : Dev nD) : Vec F S512x768 .bf16 := (win0_4.blk (0 : Fin 1)).view.read (Elt F) (m ((c : Thread nD τ).loc main_arg4))

/-- Device `c`'s queries, batch by batch. -/
def qs (c : Dev nD) : ℕ → FVec F S512x512 .bf16 :=
  perBatch (qry (wqstg m c) (xstg m c) 0 (by decide)) (qry (wqstg m c) (xstg m c) 1 (by decide))

def tgtP0 : Vec F S2x512x640 .bf16 := tgtA (qs m 0) k0_pay309 (kstg m 0) (vstg m 0) maskA
def tgtP1 : Vec F S2x160x640 .bf16 := tgt1 (qs m 1) k0_pay309 (kstg m 1) (vstg m 1)
def tgtP2 : Vec F S2x32x640 .bf16 := tgtB (qs m 2) k0_pay309 (kstg m 2) (vstg m 2)
def tgtP3 : Vec F S2x32x640 .bf16 := tgtB (qs m 3) k0_pay309 (kstg m 3) (vstg m 3)

/-- Device `c`'s result. -/
def outAt (c : Dev nD) : Vec F S2x512x768 .f32 := outOf (tgtP0 m) (tgtP1 m) (tgtP2 m) (tgtP3 m) (wostg m c)

/-! ## The partial buffers, by owner -/

abbrev shp : Dev nD → Shape
  | 0 => S2x512x640
  | 1 => S2x160x640
  | 2 => S2x32x640
  | 3 => S2x32x640

abbrev pM : (s : Dev nD) → Memref sig .tc .vmem (shp s) .bf16
  | 0 => p0M
  | 1 => p1M
  | 2 => p2M
  | 3 => p3M

theorem pM_set (s : Dev nD) : (pM s).view.set = Finset.univ := by
  match s with
  | 0 => exact View.set_whole _
  | 1 => exact View.set_whole _
  | 2 => exact View.set_whole _
  | 3 => exact View.set_whole _

/-- Owner `s`'s buffer on device `e`, at a share and contents. -/
def pPts (q : PosShare TreeShare) (e s : Dev nD) (f : Buf (Elt F) ((pM s).view.loc (e : Thread nD τ))) : sProp 𝕄 :=
  (pM s).view.loc (e : Thread nD τ) ↦{q} f

instance pPts_storable (q) (e s : Dev nD) (f) : BI.Storable (upEmb : UEmb _ 𝕄) (pPts (F := F) q e s f) := by unfold pPts; infer_instance

/-- What the buffer reads is owner `s`'s partial results on the columns anyone reads. -/
def Good : (s : Dev nD) → Vec F (shp s) .bf16 → Prop
  | 0, g => SameCols g (tgtP0 m)
  | 1, g => SameCols g (tgtP1 m)
  | 2, g => SameCols g (tgtP2 m)
  | 3, g => SameCols g (tgtP3 m)

/-- Owner `s`'s buffer on device `e`, at a share, holding owner `s`'s partial results. -/
def pGood (q : PosShare TreeShare) (e s : Dev nD) : sProp 𝕄 :=
  iprop(∃ f, ⌜Good m s ((pM s).view.read (Elt F) f)⌝ ∗ pPts q e s f)
/-- Owner `s`'s buffer on device `e`, at a share and any contents. -/
def pAny (q : PosShare TreeShare) (e s : Dev nD) : sProp 𝕄 := iprop(∃ f, pPts (F := F) q e s f)

instance pGood_storable (q) (e s : Dev nD) : BI.Storable (upEmb : UEmb _ 𝕄) (pGood m q e s) := by unfold pGood; infer_instance
instance pAny_storable (q) (e s : Dev nD) : BI.Storable (upEmb : UEmb _ 𝕄) (pAny (F := F) q e s) := by unfold pAny; infer_instance

/-- The shares of its own partial buffer a device lends to its three transfers; it keeps `fullShare.left`. -/
def lend : ℕ → PosShare TreeShare
  | 0 => fullShare.right.left
  | 1 => fullShare.right.right.left
  | _ => fullShare.right.right.right

/-- The credit of one transfer of owner `s`'s buffer. -/
def amt (s : Dev nD) : ℕ := (pM s).view.dmaCredit
theorem amt_pos (s : Dev nD) : 0 < amt s := by
  match s with
  | 0 => exact View.dmaCredit_pos _ (by decide)
  | 1 => exact View.dmaCredit_pos _ (by decide)
  | 2 => exact View.dmaCredit_pos _ (by decide)
  | 3 => exact View.dmaCredit_pos _ (by decide)

/-! ## The cells -/

abbrev barS : Sem sig := (SemArray.scalar (sig.barrier 0 rfl) : Sems sig S_).sem
abbrev send0 : DmaSems sig S_ := (cc0_scratch4.slice (Rect.unit (s := S3) ![0] S1.size inb_S3_S1_0)).squeeze S_ squeezes_S1_S_
abbrev send1 : DmaSems sig S_ := (cc0_scratch4.slice (Rect.unit (s := S3) ![1] S1.size inb_S3_S1_1)).squeeze S_ squeezes_S1_S_
abbrev send2 : DmaSems sig S_ := (cc0_scratch4.slice (Rect.unit (s := S3) ![2] S1.size inb_S3_S1_2)).squeeze S_ squeezes_S1_S_
abbrev recv0 : DmaSems sig S_ := (cc0_scratch5.slice (Rect.unit (s := S4) ![0] S1.size inb_S4_S1_0)).squeeze S_ squeezes_S1_S_
abbrev recv1 : DmaSems sig S_ := (cc0_scratch5.slice (Rect.unit (s := S4) ![1] S1.size inb_S4_S1_1)).squeeze S_ squeezes_S1_S_
abbrev recv2 : DmaSems sig S_ := (cc0_scratch5.slice (Rect.unit (s := S4) ![2] S1.size inb_S4_S1_2)).squeeze S_ squeezes_S1_S_
abbrev recv3 : DmaSems sig S_ := (cc0_scratch5.slice (Rect.unit (s := S4) ![3] S1.size inb_S4_S1_3)).squeeze S_ squeezes_S1_S_

abbrev csem : Fin 8 → SemLoc sig
  | 0 => .reg barS
  | 1 => .dma send0.sem
  | 2 => .dma send1.sem
  | 3 => .dma send2.sem
  | 4 => .dma recv0.sem
  | 5 => .dma recv1.sem
  | 6 => .dma recv2.sem
  | 7 => .dma recv3.sem
abbrev kcell (ck : Dev nD × Fin 8) : GSem nD τ sig := ((ck.1 : Thread nD τ), csem ck.2)

/-- Which of the eight cells a semaphore is. -/
def dec (x : SemLoc sig) : Option (Fin 8) := [0, 1, 2, 3, 4, 5, 6, 7].find? fun k => decide (csem k = x)

theorem dec_csem : ∀ k, dec (csem k) = some k := by decide
theorem csem_inj {k k' : Fin 8} (h : csem k = csem k') : k = k' := by
  have := dec_csem k
  rw [h, dec_csem] at this
  exact (Option.some.inj this).symm

/-- Cell `k` is owner `ownerOf k`'s receive cell, for `4 ≤ k`. -/
def ownerOf : Fin 8 → Dev nD
  | 5 => 1
  | 6 => 2
  | 7 => 3
  | _ => 0
/-- Owner `s`'s receive cell. -/
def rc : Dev nD → Fin 8
  | 0 => 4
  | 1 => 5
  | 2 => 6
  | 3 => 7
/-- The send cell of transfer `j`. -/
def sc : ℕ → Fin 8
  | 0 => 1
  | 1 => 2
  | _ => 3

theorem ownerOf_rc : ∀ s, ownerOf (rc s) = s := by decide

/-! ## The schedule -/

def dutiesAt (c : Dev nD) : Option (Fin 8) → Finset (Fin 4)
  | none => ∅
  | some k => if k = 0 then Finset.univ.erase c else if k.val < 4 then {0} else if ownerOf k = c then ∅ else {ownerOf k}
def amountAt (c : Dev nD) : Option (Fin 8) → ℕ
  | none => 1
  | some k => if k = 0 then 1 else if k.val < 4 then amt c else amt (ownerOf k)
def payAt (c d : Dev nD) : Option (Fin 8) → sProp 𝕄
  | none => iprop(emp)
  | some k => if k = 0 then pAny (F := F) fullShare d c else if k.val < 4 then pAny (F := F) (lend (k.val - 1)) c c else pGood m fullShare c (ownerOf k)

/-- One round, round 0. -/
def rd : Rounds.Schedule (GSem nD τ sig) (Fin 4) 𝕄 where
  duties g r := if r = 0 ∧ g.1.2 = .tc then dutiesAt g.1.1 (dec g.2) else ∅
  unitless _ := False
  amount g _ _ := amountAt g.1.1 (dec g.2)
  payload g _ d := payAt m g.1.1 d (dec g.2)
  amount_pos g _ _ _ := by
    cases h : dec g.2 with
    | none => exact Nat.one_pos
    | some k =>
      unfold amountAt; dsimp only
      split
      · exact Nat.one_pos
      · split <;> exact amt_pos _

instance rd_payload_storable (g : GSem nD τ sig) (r : ℕ) (d : Fin 4) : BI.Storable (upEmb : UEmb _ 𝕄) ((rd (F := F) m).payload g r d) := by
  show BI.Storable upEmb (payAt m g.1.1 d (dec g.2))
  cases h : dec g.2 with
  | none => unfold payAt; infer_instance
  | some k => unfold payAt; dsimp only; (repeat' split) <;> infer_instance

section Sched
variable (c : Dev nD)

theorem duties_cell (k : Fin 8) : (rd (F := F) m).duties (kcell (c, k)) 0 = dutiesAt c (some k) := by
  dsimp only [rd]; rw [if_pos ⟨rfl, rfl⟩, dec_csem]
theorem duties_later (g : GSem nD τ sig) : ∀ r, 1 ≤ r → (rd (F := F) m).duties g r = ∅ :=
  fun r hr => by dsimp only [rd]; rw [if_neg fun h => by omega]
theorem amount_cell (k : Fin 8) (d : Fin 4) : (rd (F := F) m).amount (kcell (c, k)) 0 d = amountAt c (some k) := by
  dsimp only [rd]; rw [dec_csem]
theorem payload_cell (k : Fin 8) (d : Fin 4) : (rd (F := F) m).payload (kcell (c, k)) 0 d = payAt m c d (some k) := by
  dsimp only [rd]; rw [dec_csem]

theorem duties_send (j : ℕ) : (rd (F := F) m).duties (kcell (c, sc j)) 0 = {0} := by
  rw [duties_cell]
  match j with
  | 0 => rfl
  | 1 => rfl
  | _ + 2 => rfl
theorem duties_bar : (rd (F := F) m).duties (kcell (c, 0)) 0 = Finset.univ.erase c := duties_cell m c 0
theorem duties_recv (s : Dev nD) (h : s ≠ c) : (rd (F := F) m).duties (kcell (c, rc s)) 0 = {s} := by
  rw [duties_cell]; revert s c; decide
theorem duties_own : ∀ r, 0 ≤ r → (rd (F := F) m).duties (kcell (c, rc c)) r = ∅ := fun r _ => by
  cases r with
  | zero => rw [duties_cell]; revert c; decide
  | succ r => exact duties_later m _ _ (by omega)

theorem amount_bar (d : Fin 4) : (rd (F := F) m).amount (kcell (c, 0)) 0 d = 1 := amount_cell m c 0 d
theorem amount_send (j : ℕ) (d : Fin 4) : (rd (F := F) m).amount (kcell (c, sc j)) 0 d = amt c := by
  rw [amount_cell]
  match j with
  | 0 => rfl
  | 1 => rfl
  | _ + 2 => rfl
theorem amount_recv (s : Dev nD) (d : Fin 4) : (rd (F := F) m).amount (kcell (c, rc s)) 0 d = amt s := by
  rw [amount_cell]
  match s with
  | 0 => rfl
  | 1 => rfl
  | 2 => rfl
  | 3 => rfl

theorem payload_bar (d : Fin 4) : (rd (F := F) m).payload (kcell (c, 0)) 0 d = pAny fullShare d c := payload_cell m c 0 d
theorem payload_send (j : ℕ) (d : Fin 4) : (rd (F := F) m).payload (kcell (c, sc j)) 0 d = pAny (lend j) c c := by
  rw [payload_cell]
  match j with
  | 0 => rfl
  | 1 => rfl
  | _ + 2 => rfl
theorem payload_recv (s : Dev nD) (d : Fin 4) : (rd (F := F) m).payload (kcell (c, rc s)) 0 d = pGood m fullShare c s := by
  rw [payload_cell]
  match s with
  | 0 => rfl
  | 1 => rfl
  | 2 => rfl
  | 3 => rfl

theorem expect_bar : (rd (F := F) m).expect (kcell (c, 0)) 0 = 3 := by
  unfold Schedule.expect Schedule.amountOf
  rw [duties_bar, Finset.sum_congr rfl fun d _ => amount_bar m c d, Finset.sum_const, smul_eq_mul, mul_one, Finset.card_erase_of_mem (Finset.mem_univ _), Finset.card_univ, Fintype.card_fin]
theorem expect_send (j : ℕ) : (rd (F := F) m).expect (kcell (c, sc j)) 0 = amt c := by
  unfold Schedule.expect Schedule.amountOf; rw [duties_send, Finset.sum_singleton, amount_send]
theorem expect_recv (s : Dev nD) (h : s ≠ c) : (rd (F := F) m).expect (kcell (c, rc s)) 0 = amt s := by
  unfold Schedule.expect Schedule.amountOf; rw [duties_recv m c s h, Finset.sum_singleton, amount_recv]

theorem rest_send (j : ℕ) : bigSep ((rd (F := F) m).duties (kcell (c, sc j)) 0 \ ∅) (fun d => (rd (F := F) m).payload (kcell (c, sc j)) 0 d) = pAny (lend j) c c := by
  rw [Finset.sdiff_empty, duties_send, bigSep_singleton, payload_send]
theorem rest_recv (s : Dev nD) (h : s ≠ c) : bigSep ((rd (F := F) m).duties (kcell (c, rc s)) 0 \ ∅) (fun d => (rd (F := F) m).payload (kcell (c, rc s)) 0 d) = pGood m fullShare c s := by
  rw [Finset.sdiff_empty, duties_recv m c s h, bigSep_singleton, payload_recv]

/-- The device `j` steps after `c`. -/
def peer (c : Dev nD) (j : ℕ) : Dev nD := c + Fin.ofNat 4 j

theorem bar_peers : Finset.univ.erase c = {peer c 1, peer c 2, peer c 3} := by revert c; decide
theorem rest_bar : bigSep ((rd (F := F) m).duties (kcell (c, 0)) 0 \ ∅) (fun d => (rd (F := F) m).payload (kcell (c, 0)) 0 d)
    = iprop(pAny (F := F) fullShare (peer c 1) c ∗ pAny (F := F) fullShare (peer c 2) c ∗ pAny (F := F) fullShare (peer c 3) c) := by
  rw [Finset.sdiff_empty, duties_bar, bar_peers, bigSep_insert (by revert c; decide), bigSep_insert (by revert c; decide), bigSep_singleton, payload_bar, payload_bar, payload_bar]
  rfl

end Sched

/-! ## What each core owes at launch; the levels -/

/-- Owed to the receive cells of the three others, and (at launch) a unit to each of their barriers, in the order paid. -/
def O3 (c : Dev nD) : CellTallies nD τ sig Unit := tallyAt (kcell (peer c 3, rc c)) () (amt c)
def O2 (c : Dev nD) : CellTallies nD τ sig Unit := O3 c + tallyAt (kcell (peer c 2, rc c)) () (amt c)
def O1 (c : Dev nD) : CellTallies nD τ sig Unit := O2 c + tallyAt (kcell (peer c 1, rc c)) () (amt c)
def B2 (c : Dev nD) : CellTallies nD τ sig Unit := O1 c + tallyAt (kcell (peer c 3, 0)) () 1
def B1 (c : Dev nD) : CellTallies nD τ sig Unit := B2 c + tallyAt (kcell (peer c 2, 0)) () 1
def O₀ (c : Dev nD) : CellTallies nD τ sig Unit := B1 c + tallyAt (kcell (peer c 1, 0)) () 1

def L (g : GSem nD τ sig) : Finset Unit := if g.1.2 = .tc then {()} else ∅
def lvAt : Option (Fin 8) → ℕ
  | none => 0
  | some k => if k = 0 then 1 else if k.val < 4 then 0 else 2
/-- Barrier cells at 1, receive cells at 2, everything else (staging, send) at 0. -/
def lv (g : GSem nD τ sig) (_ : Unit) : ℕ := lvAt (dec g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Fin 8) (u : Unit) : lv (kcell (c, k)) u = lvAt (some k) := by unfold lv; rw [dec_csem]

theorem tally_pos {g g' : GSem nD τ sig} {u : Unit} {n : ℕ} {O : CellTallies nD τ sig Unit} (h : 0 < (O + tallyAt g' () n) g u) :
    0 < O g u ∨ g = g' := by
  rw [Pi.add_apply, Finsupp.add_apply, tallyAt_apply] at h
  by_cases hg : g = g'
  · exact .inr hg
  · rw [if_neg (fun h' => hg h'.1)] at h; exact .inl h

theorem O1_pos {c : Dev nD} {g : GSem nD τ sig} {u : Unit} (h : 0 < O1 c g u) : ∃ e, g = kcell (e, rc c) := by
  unfold O1 O2 at h
  rcases tally_pos h with h | h
  · rcases tally_pos h with h | h
    · unfold O3 at h
      rw [tallyAt_apply] at h
      by_cases hg : g = kcell (peer c 3, rc c)
      · exact ⟨_, hg⟩
      · rw [if_neg (fun h' => hg h'.1)] at h; exact absurd h (Nat.lt_irrefl 0)
    · exact ⟨_, h⟩
  · exact ⟨_, h⟩

theorem O₀_pos {c : Dev nD} {g : GSem nD τ sig} {u : Unit} (h : 0 < O₀ c g u) : (∃ e, g = kcell (e, rc c)) ∨ ∃ e, g = kcell (e, 0) := by
  unfold O₀ B1 B2 at h
  rcases tally_pos h with h | h
  · rcases tally_pos h with h | h
    · rcases tally_pos h with h | h
      · exact .inl (O1_pos h)
      · exact .inr ⟨_, h⟩
    · exact .inr ⟨_, h⟩
  · exact .inr ⟨_, h⟩

theorem lvAt_rc (c : Dev nD) : lvAt (some (rc c)) = 2 := by revert c; decide

/-- While it stages, a device waits on cells below everything it owes. -/
theorem mayWait_stage (c : Dev nD) (q : DmaSem sig) (hq : lvAt (dec (.dma q)) = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨e, rfl⟩ | ⟨e, rfl⟩ <;> exact Finset.mem_singleton_self _)
      (fun p hp => by rw [Finset.mem_singleton.mp hp]; exact le_of_eq hq)
      (fun g u hg => by
        rcases O₀_pos hg with ⟨e, rfl⟩ | ⟨e, rfl⟩
        · rw [lv_cell, lvAt_rc]; decide
        · rw [lv_cell]; decide)
  · rw [MayWait_zero]; iintro -; iempintro

/-- At its barrier wait a device owes receive credits only, which lie above its barrier cell. -/
theorem mayWait_bar (c : Dev nD) : (levAts L lv : sProp 𝕄) ⊢ MayWait (c : Thread nD τ) (.reg barS) () (O1 c) :=
  MayOwe.of_cut (L := L) (lev := lv) 1 (fun p hp => by rw [Finset.mem_singleton.mp hp, L_tc]; exact Finset.mem_singleton_self _)
    (fun g u hg => by obtain ⟨e, rfl⟩ := O1_pos hg; exact Finset.mem_singleton_self _)
    (fun p hp => by rw [Finset.mem_singleton.mp hp]; exact le_of_eq (lv_cell c 0 ()))
    (fun g u hg => by obtain ⟨e, rfl⟩ := O1_pos hg; rw [lv_cell, lvAt_rc]; decide)

end Cert.Exchange
-- ==== Proof.Steps.lean ====
/-
# 01_k — the steps of the exchange

One lemma for each kind of step a device takes: the signals, the barrier's wait, the transfers, the two kinds of waits for
transfers, and the closing of the cells.
-/
module

public import proofs.«01_k».proof.Proof.Protocol

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-! ## What every device knows: the invariants of all cells, and that each is at its round 0 -/

variable (K : Dev nD × Fin 8 → ℕ)

def records : sProp 𝕄 :=
  iprop((bigSep Finset.univ fun ck : Dev nD × Fin 8 => cellInv ER (rd (F := F) m) (K ck) (kcell ck))
    ∗ bigSep Finset.univ fun ck : Dev nD × Fin 8 => reached ER (kcell ck) 0)

instance records_persistent : BI.Persistent (records (F := F) m K) := by unfold records; infer_instance

theorem inv_at (ck : Dev nD × Fin 8) : records (F := F) m K ⊢ cellInv ER (rd (F := F) m) (K ck) (kcell ck) := by
  unfold records
  exact sep_elim_left.trans (bigSep_elim (Φ := fun ck : Dev nD × Fin 8 => (cellInv ER (rd (F := F) m) (K ck) (kcell ck) : sProp 𝕄)) (Finset.mem_univ ck))
theorem reached_at (ck : Dev nD × Fin 8) : records (F := F) m K ⊢ reached ER (kcell ck) 0 := by
  unfold records
  exact sep_elim_right.trans (bigSep_elim (Φ := fun ck : Dev nD × Fin 8 => (reached ER (kcell ck) 0 : sProp 𝕄)) (Finset.mem_univ ck))

/-! ## Shares of a partial buffer -/

theorem pPts_halves (q : PosShare TreeShare) (e s : Dev nD) (f) :
    pPts (F := F) q e s f ⊢ iprop(pPts q.left e s f ∗ pPts q.right e s f) := by
  unfold pPts; exact (pointsTo_share (PosShare.mem_left_op_right q)).1

/-- The shares lent to the three transfers, and the share kept. -/
theorem pPts_lend (s : Dev nD) (f) :
    pPts (F := F) fullShare s s f ⊢ iprop(pPts fullShare.left s s f ∗ pPts (lend 0) s s f ∗ pPts (lend 1) s s f ∗ pPts (lend 2) s s f) := by
  iintro H
  ihave H' := (pPts_halves fullShare s s f) $$ H
  icases H' with ⟨Hl, H⟩
  isplitl [Hl]; · iexact Hl
  ihave H' := (pPts_halves fullShare.right s s f) $$ H
  icases H' with ⟨Hl, H⟩
  isplitl [Hl]; · iexact Hl
  ihave H' := (pPts_halves fullShare.right.right s s f) $$ H
  iexact H'

/-- Two halves join, whatever each was said to hold. -/
theorem pAny_join (q : PosShare TreeShare) (e s : Dev nD) : iprop(pAny (F := F) q.left e s ∗ pAny (F := F) q.right e s) ⊢ pAny q e s := by
  unfold pAny pPts
  iintro ⟨⟨%f, Hl⟩, ⟨%g, Hr⟩⟩
  iapply (show iprop(((pM s).view.loc (e : Thread nD τ) ↦{q.left} f) ∗ ((pM s).view.loc (e : Thread nD τ) ↦{q.right} g))
      ⊢ (iprop(∃ f, ((pM s).view.loc (e : Thread nD τ) ↦{q} f)) : sProp 𝕄) from
    pure_elim _ pointsTo_agree fun hv => by
      rw [pointsTo_congr (f := g) (g := f) (fun i hi => ((hv i (Finset.mem_inter.mpr ⟨hi, hi⟩)).1).symm)]
      iintro H
      iexists f
      iapply (pointsTo_share (PosShare.mem_left_op_right q)).2; iexact H)
  isplitl [Hl]; · iexact Hl
  iexact Hr

/-- The kept share and the three that came back are the whole buffer. -/
theorem pAny_unlend (c : Dev nD) :
    pAny (F := F) fullShare.left c c ⊢ iprop(pAny (F := F) (lend 0) c c -∗ pAny (F := F) (lend 1) c c -∗ pAny (F := F) (lend 2) c c -∗ pAny fullShare c c) := by
  iintro Hl H0 H1 H2
  iapply (pAny_join fullShare c c)
  isplitl [Hl]; · iexact Hl
  iapply (pAny_join fullShare.right c c)
  isplitl [H0]; · iexact H0
  iapply (pAny_join fullShare.right.right c c)
  isplitl [H1]; · iexact H1
  iexact H2

theorem pGood_any (q : PosShare TreeShare) (e s : Dev nD) : pGood (F := F) m q e s ⊢ pAny q e s := by
  unfold pGood pAny; iintro ⟨%f, -, H⟩; iexists f; iexact H

/-! ## The steps of the exchange, at the cells of the schedule -/

/-- A signal to another device's barrier: this device's buffer for that device's results goes with it. -/
theorem step_signal {α : Type} {Q : α → sProp 𝕄} {k : PUnit → Prog (TpuEff nD τ sig (Elt F) Λ₀ .tc) α}
    (c n : Dev nD) (j : ℕ) (hn : n = peer c j) (hj : peer c j ≠ c) (O O' : CellTallies nD τ sig Unit) (hO : O = O' + tallyAt (kcell (peer c j, 0)) () 1) (W : Waits sig Unit) :
    records m K
      ⊢ iprop(owes (c : Thread nD τ) O W -∗ dutyTok ER (kcell (peer c j, 0)) 0 c -∗ pAny (F := F) fullShare c (peer c j) -∗ (owes (c : Thread nD τ) O' W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS 1) k) Q) := by
  subst hn
  iintro #HR HO Htok Hp Hk
  iapply (Rounds.wp_signal 𝒱₀ ER (rd (F := F) m) (c : Thread nD τ) none (dst := (peer c j : Thread nD τ)) (κ := K (peer c j, 0)) (r := 0)
      (d := c) (by rw [duties_bar m (peer c j)]; exact Finset.mem_erase.mpr ⟨hj.symm, Finset.mem_univ _⟩) (amount_bar m (peer c j) c) () O' hO) $$ [HO Htok Hp]
  · isplitr; · iapply (inv_at m K (peer c j, 0)); iexact HR
    isplitl [HO]; · iexact HO
    isplitl [Htok]; · iexact Htok
    isplitl [Hp]; · rw [payload_bar m (peer c j) c]; iexact Hp
    iapply (reached_at m K (peer c j, 0)); iexact HR
  iexact Hk

/-- The wait for the three signals: the three others' buffers for this device's results come with it. -/
theorem step_barrier {α : Type} {Q : α → sProp 𝕄} {k : PUnit → Prog (TpuEff nD τ sig (Elt F) Λ₀ .tc) α}
    (c : Dev nD) (W : Waits sig Unit) :
    records m K
      ⊢ iprop(levAts L lv -∗ cred (tallyAt (kcell (c, 0)) () 3) -∗ owes (c : Thread nD τ) (O1 c) W -∗ atPos ER (kcell (c, 0)) 0 ∅ 0 -∗ ((owes (c : Thread nD τ) (O1 c) (insert (csem 0, ()) W) ∗ atPos ER (kcell (c, 0)) 1 ∅ 0
            ∗ pAny (F := F) fullShare (peer c 1) c ∗ pAny (F := F) fullShare (peer c 2) c ∗ pAny (F := F) fullShare (peer c 3) c)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 3) k) Q) := by
  iintro #HR #Hlev Hc HO Hat Hk
  iapply (Rounds.wp_wait_rest_token 𝒱₀ ER (rd (F := F) m) (c : Thread nD τ) none (κ := K (c, 0))
      (wpE_semWait_eq 𝒱₀ (c : Thread nD τ) none Set.univ) (Set.mem_univ _) () (O := O1 c) (W := W) (R := 0) (m := 0) (T := ∅)
      (by rw [expect_bar m c])) $$ [Hc HO Hat]
  · isplitr; · iapply (inv_at m K (c, 0)); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  iapply Hk
  isplitl [HO]; · iexact HO
  isplitl [Hat]; · iexact Hat
  iexact Hp

/-- What pays for transfer `j` of device `s`: the duties of its departure and of its landing. -/
def sendTok (s : Dev nD) (j : ℕ) : sProp 𝕄 :=
  iprop(dutyTok ER (kcell (s, sc j)) 0 0 ∗ dutyTok ER (kcell (peer s (j + 1), rc s)) 0 s)

theorem amount_rc (s : Dev nD) : (pM s).view.amount (csem (rc s)) = amt s := by
  match s with
  | 0 => rfl
  | 1 => rfl
  | 2 => rfl
  | 3 => rfl

/-- Transfer `j` of device `s`'s partial results, to the device `j + 1` steps on. -/
theorem step_send {α : Type} {Q : α → sProp 𝕄} {k : PUnit → Prog (TpuEff nD τ sig (Elt F) Λ₀ .tc) α}
    (s n : Dev nD) (j : ℕ) (hn : n = peer s (j + 1)) (hj : peer s (j + 1) ≠ s) (sS sR : SemLoc sig) (hS : sS = csem (sc j)) (hR : sR = csem (rc s))
    {hsc : (pM s : Memref sig (Dev.tc n : Thread nD τ).2.kind .vmem (shp s) .bf16).view.ref.isScScratch = false}
    {hsrc : (pM s).view.WordExact} {hdst : (pM s).view.WordExact}
    {hsem : DmaTarget.Typed .vmem sR (.remote (Dev.tc n : Thread nD τ) (pM s : Memref sig (Dev.tc n : Thread nD τ).2.kind .vmem (shp s) .bf16) sS hsc)}
    (fs : Buf (Elt F) ((pM s).view.loc (s : Thread nD τ))) (hG : Good m s ((pM s).view.read (Elt F) fs))
    (O O' : CellTallies nD τ sig Unit) (hO : O = O' + tallyAt (kcell (peer s (j + 1), rc s)) () (amt s)) (W : Waits sig Unit) :
    records m K
      ⊢ iprop(pPts (lend j) s s fs -∗ sendTok (F := F) s j -∗ pAny (F := F) fullShare (peer s (j + 1)) s -∗ owes (s : Thread nD τ) O W -∗ ((cred (tallyAt (kcell (s, sc j)) () (amt s)) ∗ owes (s : Thread nD τ) O' W) -∗ wp frame (wpE (defs₀ (F := F)) 𝒱₀ (s : Thread nD τ) none) Set.univ (k ⟨⟩) Q)
          -∗ wp frame (wpE (defs₀ (F := F)) 𝒱₀ (s : Thread nD τ) none) Set.univ
              (.op (.enqueueDma (pM s) (.remote (Dev.tc n : Thread nD τ) (pM s) sS hsc) sR hsrc hdst hsem) k) Q) := by
  subst hn hS hR
  unfold sendTok pAny
  iintro #HR Hs ⟨Ht1, Ht2⟩ ⟨%fd, Hd⟩ HO Hk
  iapply (Rounds.wp_send_pointsTo 𝒱₀ ER (rd (F := F) m) (s : Thread nD τ) none (κ₁ := K (s, sc j)) (κ₂ := K (peer s (j + 1), rc s))
    (r₁ := 0) (r₂ := 0) (d₁ := 0) (d₂ := s) (fs := fs) (fd := fd) (q := lend j)
    (by rw [duties_send m s]; exact Finset.mem_singleton_self _) (by rw [duties_recv m (peer s (j + 1)) s hj.symm]; exact Finset.mem_singleton_self _)
    () () (amt s) (amount_rc s) (amount_send m s j 0) (amount_recv m (peer s (j + 1)) s s) O' hO (W := W)
    (by rw [payload_send m s, pM_set]; unfold pAny pPts; iintro H; iexists fs; iexact H)
    (by
      rw [payload_recv m (peer s (j + 1)), pM_set]; unfold pGood pPts; iintro H
      iexists ((pM s).view.write (Elt F) fd ((pM s).view.read (Elt F) fs) Finset.univ)
      isplitr; · ipureintro; rw [View.read_write_univ]; exact hG
      iexact H)) $$ [Hs Hd HO Ht1 Ht2]
  · isplitr; · iapply (inv_at m K (s, sc j)); iexact HR
    isplitr; · iapply (inv_at m K (peer s (j + 1), rc s)); iexact HR
    isplitl [Hs]; · rw [pM_set]; unfold pPts; iexact Hs
    isplitl [Hd]; · rw [pM_set]; unfold pPts; iexact Hd
    isplitl [HO]; · iexact HO
    isplitl [Ht1]; · iexact Ht1
    isplitr; · iapply (reached_at m K (s, sc j)); iexact HR
    isplitl [Ht2]; · iexact Ht2
    iapply (reached_at m K (peer s (j + 1), rc s)); iexact HR
  iexact Hk

/-- The wait for owner `s`'s partial results on device `c`. -/
theorem step_recv {α : Type} {Q : α → sProp 𝕄} {k : PUnit → Prog (TpuEff nD τ sig (Elt F) Λ₀ .tc) α}
    (c s : Dev nD) (h : s ≠ c) (q : DmaSem sig) (hq : SemLoc.dma q = csem (rc s)) {h1 h2 : (pM s).view.WordExact} (W : Waits sig Unit) :
    records m K
      ⊢ iprop(cred (tallyAt (kcell (c, rc s)) () (amt s)) -∗ owes (c : Thread nD τ) 0 W -∗ atPos ER (kcell (c, rc s)) 0 ∅ 0 -∗ ((owes (c : Thread nD τ) 0 (insert (csem (rc s), ()) W) ∗ atPos ER (kcell (c, rc s)) 1 ∅ 0 ∗ pGood (F := F) m fullShare c s)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q (pM s) (pM s) h1 h2) k) Q) := by
  iintro #HR Hc HO Hat Hk
  rw [← rest_recv m c s h]
  unfold kcell at *
  dsimp only at *
  rw [← hq]
  iapply (Rounds.wp_wait_rest_token 𝒱₀ ER (rd (F := F) m) (c : Thread nD τ) none (κ := K (c, rc s))
      (wpE_waitDma2_eq 𝒱₀ (c : Thread nD τ) none Set.univ) (Set.mem_univ _) () (O := 0) (W := W) (R := 0) (m := 0) (T := ∅)
      (by rw [hq, Nat.zero_add]; exact (expect_recv m c s h).symm)) $$ [Hc HO Hat]
  · isplitr; · rw [hq]; iapply (inv_at m K (c, rc s)); iexact HR
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iexact Hpay

/-- The wait until transfer `j` has read this device's partial results out. -/
theorem step_sent {α : Type} {Q : α → sProp 𝕄} {k : PUnit → Prog (TpuEff nD τ sig (Elt F) Λ₀ .tc) α}
    (c : Dev nD) (j : ℕ) (q : DmaSem sig) (hq : SemLoc.dma q = csem (sc j)) {h1 h2 : (pM c).view.WordExact} (W : Waits sig Unit) :
    records m K
      ⊢ iprop(cred (tallyAt (kcell (c, sc j)) () (amt c)) -∗ owes (c : Thread nD τ) 0 W -∗ atPos ER (kcell (c, sc j)) 0 ∅ 0 -∗ ((owes (c : Thread nD τ) 0 (insert (csem (sc j), ()) W) ∗ atPos ER (kcell (c, sc j)) 1 ∅ 0 ∗ pAny (F := F) (lend j) c c)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q (pM c) (pM c) h1 h2) k) Q) := by
  iintro #HR Hc HO Hat Hk
  rw [← rest_send m c j]
  unfold kcell at *
  dsimp only at *
  rw [← hq]
  iapply (Rounds.wp_wait_rest_token 𝒱₀ ER (rd (F := F) m) (c : Thread nD τ) none (κ := K (c, sc j))
      (wpE_waitDma2_eq 𝒱₀ (c : Thread nD τ) none Set.univ) (Set.mem_univ _) () (O := 0) (W := W) (R := 0) (m := 0) (T := ∅)
      (by rw [hq, Nat.zero_add]; exact (expect_send m c j).symm)) $$ [Hc HO Hat]
  · isplitr; · rw [hq]; iapply (inv_at m K (c, sc j)); iexact HR
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iexact Hpay

/-- A cell past its last round closes: its counter is at zero. -/
theorem step_close (c : Dev nD) (k : Fin 8) :
    records m K ⊢ iprop(atPos ER (kcell (c, k)) 1 ∅ 0 -∗ |={Set.univ}=> semVal (kcell (c, k)) 0) := by
  iintro #HR Hat
  iapply (Rounds.cell_close ER (rd (F := F) m) (Set.mem_univ (K (c, k))) (fun h => h) (R := 1) (duties_later m (kcell (c, k))))
  isplitr; · iapply (inv_at m K (c, k)); iexact HR
  iexact Hat
/-- The receive cell of a device's own buffer is never used: it closes at once. -/
theorem step_close_own (c : Dev nD) :
    records m K ⊢ iprop(atPos ER (kcell (c, rc c)) 0 ∅ 0 -∗ |={Set.univ}=> semVal (kcell (c, rc c)) 0) := by
  iintro #HR Hat
  iapply (Rounds.cell_close ER (rd (F := F) m) (Set.mem_univ (K (c, rc c))) (fun h => h) (R := 0) (duties_own m c))
  isplitr; · iapply (inv_at m K (c, rc c)); iexact HR
  iexact Hat

end Cert.Exchange
-- ==== Proof.Send.lean ====
/-
# 01_k — a device computes its partial results and sends them
-/
module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

variable (K : Dev nD × Fin 8 → ℕ)

theorem dev_cases : ∀ c : Dev nD, c = 0 ∨ c = 1 ∨ c = 2 ∨ c = 3 := by decide

/-- The device's number as the kernel computes it. -/
abbrev num (c : Dev nD) : BitVec 32 := Scalar.remsi (Scalar.divsi (Dev.word c) 1#32) 4#32

theorem num_0 : num 0 = 0#32 := by decide
theorem num_1 : num 1 = 1#32 := by decide
theorem num_2 : num 2 = 2#32 := by decide
theorem num_3 : num 3 = 3#32 := by decide

theorem pPts_0 (q) (e : Dev nD) (f : Buf (Elt F) (p0M.view.loc (e : Thread nD τ))) : pPts (F := F) q e 0 f = (p0M.view.loc (e : Thread nD τ) ↦{q} f) := rfl
theorem pPts_1 (q) (e : Dev nD) (f : Buf (Elt F) (p1M.view.loc (e : Thread nD τ))) : pPts (F := F) q e 1 f = (p1M.view.loc (e : Thread nD τ) ↦{q} f) := rfl
theorem pPts_2 (q) (e : Dev nD) (f : Buf (Elt F) (p2M.view.loc (e : Thread nD τ))) : pPts (F := F) q e 2 f = (p2M.view.loc (e : Thread nD τ) ↦{q} f) := rfl
theorem pPts_3 (q) (e : Dev nD) (f : Buf (Elt F) (p3M.view.loc (e : Thread nD τ))) : pPts (F := F) q e 3 f = (p3M.view.loc (e : Thread nD τ) ↦{q} f) := rfl

/-! ## The partial results as the stores leave them -/

theorem good0 (v50 v56 : FVec F S512x512 .bf16) (hq : perBatch v50 v56 = qs m 0) (f) :
    Good m 0 ((pM 0).view.read (Elt F) (p0M.view.writes (Elt F) f (heads (pieceA (perBatch v50 v56) k0_pay309 (kstg m 0) (vstg m 0) maskA) 16 (Nat.le_refl _)))) := by
  rw [hq]; exact fun y hy => reads_of_heads (agreesA _ _ _ _ _) (coversA _ _ _ _ _) _ _ y hy
theorem good1 (v50 v56 : FVec F S512x512 .bf16) (hq : perBatch v50 v56 = qs m 1) (f) :
    Good m 1 ((pM 1).view.read (Elt F) (p1M.view.writes (Elt F) f (heads (piece1 (perBatch v50 v56) k0_pay309 (kstg m 1) (vstg m 1)) 16 (Nat.le_refl _)))) := by
  rw [hq]; exact fun y hy => reads_of_heads (agrees1 _ _ _ _) (covers1 _ _ _ _) _ _ y hy
theorem good2 (v50 v56 : FVec F S512x512 .bf16) (hq : perBatch v50 v56 = qs m 2) (f) :
    Good m 2 ((pM 2).view.read (Elt F) (p2M.view.writes (Elt F) f (heads (pieceB (perBatch v50 v56) k0_pay309 (kstg m 2) (vstg m 2)) 16 (Nat.le_refl _)))) := by
  rw [hq]; exact fun y hy => reads_of_heads (agreesB _ _ _ _) (coversB _ _ _ _) _ _ y hy
theorem good3 (v50 v56 : FVec F S512x512 .bf16) (hq : perBatch v50 v56 = qs m 3) (f) :
    Good m 3 ((pM 3).view.read (Elt F) (p3M.view.writes (Elt F) f (heads (pieceB (perBatch v50 v56) k0_pay309 (kstg m 3) (vstg m 3)) 16 (Nat.le_refl _)))) := by
  rw [hq]; exact fun y hy => reads_of_heads (agreesB _ _ _ _) (coversB _ _ _ _) _ _ y hy

/-! ## Computing and sending the partial results -/

/-- What a device holds before it computes its partial results, and after it has sent them. -/
def pre64 (s : Dev nD) (W : Waits sig Unit) : sProp 𝕄 :=
  iprop((kM.view.loc (s : Thread nD τ) ↦{fullShare} kstg m s) ∗ (vM.view.loc (s : Thread nD τ) ↦{fullShare} vstg m s)
    ∗ pAny (F := F) fullShare s s ∗ owes (s : Thread nD τ) (O1 s) W
    ∗ (sendTok (F := F) s 0 ∗ pAny (F := F) fullShare (peer s 1) s) ∗ (sendTok (F := F) s 1 ∗ pAny (F := F) fullShare (peer s 2) s)
    ∗ (sendTok (F := F) s 2 ∗ pAny (F := F) fullShare (peer s 3) s))
def post64 (s : Dev nD) (W : Waits sig Unit) : sProp 𝕄 :=
  iprop((kM.view.loc (s : Thread nD τ) ↦{fullShare} kstg m s) ∗ (vM.view.loc (s : Thread nD τ) ↦{fullShare} vstg m s)
    ∗ pGood m fullShare.left s s ∗ owes (s : Thread nD τ) 0 W
    ∗ cred (tallyAt (kcell (s, sc 0)) () (amt s)) ∗ cred (tallyAt (kcell (s, sc 1)) () (amt s)) ∗ cred (tallyAt (kcell (s, sc 2)) () (amt s)))

theorem kept_of_good (s : Dev nD) (W : Waits sig Unit) {f} (hG : Good m s ((pM s).view.read (Elt F) f)) :
    (kM.view.loc (s : Thread nD τ) ↦{fullShare} kstg m s) ⊢ iprop((vM.view.loc (s : Thread nD τ) ↦{fullShare} vstg m s) -∗ pPts fullShare.left s s f
      -∗ owes (s : Thread nD τ) 0 W -∗ cred (tallyAt (kcell (s, sc 0)) () (amt s)) -∗ cred (tallyAt (kcell (s, sc 1)) () (amt s))
      -∗ cred (tallyAt (kcell (s, sc 2)) () (amt s)) -∗ post64 m s W) := by
  unfold post64 pGood
  iintro Hk Hv Hp HO C0 C1 C2
  isplitl [Hk]; · iexact Hk
  isplitl [Hv]; · iexact Hv
  isplitl [Hp]
  · iexists f; isplitr; · ipureintro; exact hG
    iexact Hp
  isplitl [HO]; · iexact HO
  isplitl [C0]; · iexact C0
  isplitl [C1]; · iexact C1
  iexact C2

set_option maxHeartbeats 4000000 in
theorem spec64_0 (v50 v56 : FVec F S512x512 .bf16) (hq : perBatch v50 v56 = qs m 0) (W : Waits sig Unit) :
    iprop(records m K ∗ pre64 m 0 W)
      ⊢ wp frame (wpE (defs₀ (F := F)) 𝒱₀ ((0 : Dev nD) : Thread nD τ) none) Set.univ
          (k0_part64 xM (Memref.isWhole_whole _) wqM (Memref.isWhole_whole _) kM (Memref.isWhole_whole _) vM (Memref.isWhole_whole _)
            woM (Memref.isWhole_whole _) oM (Memref.isWhole_whole _) p0M (Memref.isWhole_whole _) p1M (Memref.isWhole_whole _)
            p2M (Memref.isWhole_whole _) p3M (Memref.isWhole_whole _) cc0_scratch4 cc0_scratch5 0 (0#32) v50 v56 k0_pay309
            (iota .tc S512x512 32 [0] iota_S512x512_d0_w32) k0_pay310 k0_pay311)
          fun r => iprop(⌜r = ⟨Scalar.extui (Scalar.cmpi .ne (0#32) 0#32), 0#32⟩⌝ ∗ post64 m 0 W) := by
  unfold pre64
  rw [show pAny (F := F) fullShare 0 0 = iprop(∃ f, pPts fullShare 0 0 f) from rfl]
  iintro ⟨#HR, Hk, Hv, ⟨%f, Hp⟩, HO, ⟨T0, D0⟩, ⟨T1, D1⟩, ⟨T2, D2⟩⟩
  ihave Hp := (Entails.of_eq (pPts_0 fullShare 0 f)) $$ Hp
  sl_exec_parts (disch := decide)
  have hG : Good m 0 ((pM 0).view.read (Elt F) (p0M.view.writes (Elt F) f (spec64_0.sl.Hp_32 m v50 v56))) := good0 m v50 v56 hq f
  ihave Hp := ((Entails.of_eq (pPts_0 fullShare 0 _).symm).trans (pPts_lend 0 _)) $$ Hp
  icases Hp with ⟨Hp, L0, L1, L2⟩
  iapply (step_send m K 0 _ 0 rfl (by decide) _ _ rfl rfl _ hG (O1 0) (O2 0) rfl W) $$ HR L0 T0 D0 HO
  iintro ⟨C0, HO⟩
  sl_exec_parts (disch := decide)
  iapply (step_send m K 0 _ 1 rfl (by decide) _ _ rfl rfl _ hG (O2 0) (O3 0) rfl W) $$ HR L1 T1 D1 HO
  iintro ⟨C1, HO⟩
  sl_exec_parts (disch := decide)
  iapply (step_send m K 0 _ 2 rfl (by decide) _ _ rfl rfl _ hG (O3 0) 0 (by rw [zero_add]; rfl) W) $$ HR L2 T2 D2 HO
  iintro ⟨C2, HO⟩
  sl_exec_parts (disch := decide)
  rw [wp_ret]; imodintro
  isplitr; · ipureintro; rfl
  iapply (kept_of_good m _ _ hG) $$ Hk Hv Hp HO C0 C1 C2

set_option maxHeartbeats 4000000 in
theorem spec64_1 (v50 v56 : FVec F S512x512 .bf16) (hq : perBatch v50 v56 = qs m 1) (W : Waits sig Unit) :
    iprop(records m K ∗ pre64 m 1 W)
      ⊢ wp frame (wpE (defs₀ (F := F)) 𝒱₀ ((1 : Dev nD) : Thread nD τ) none) Set.univ
          (k0_part64 xM (Memref.isWhole_whole _) wqM (Memref.isWhole_whole _) kM (Memref.isWhole_whole _) vM (Memref.isWhole_whole _)
            woM (Memref.isWhole_whole _) oM (Memref.isWhole_whole _) p0M (Memref.isWhole_whole _) p1M (Memref.isWhole_whole _)
            p2M (Memref.isWhole_whole _) p3M (Memref.isWhole_whole _) cc0_scratch4 cc0_scratch5 1 (1#32) v50 v56 k0_pay309
            (iota .tc S512x512 32 [0] iota_S512x512_d0_w32) k0_pay310 k0_pay311)
          fun r => iprop(⌜r = ⟨Scalar.extui (Scalar.cmpi .ne (1#32) 0#32), 0#32⟩⌝ ∗ post64 m 1 W) := by
  unfold pre64
  rw [show pAny (F := F) fullShare 1 1 = iprop(∃ f, pPts fullShare 1 1 f) from rfl]
  iintro ⟨#HR, Hk, Hv, ⟨%f, Hp⟩, HO, ⟨T0, D0⟩, ⟨T1, D1⟩, ⟨T2, D2⟩⟩
  ihave Hp := (Entails.of_eq (pPts_1 fullShare 1 f)) $$ Hp
  sl_exec_parts (disch := decide)
  have hG : Good m 1 ((pM 1).view.read (Elt F) (p1M.view.writes (Elt F) f (spec64_1.sl.Hp_64 m v50 v56))) := good1 m v50 v56 hq f
  ihave Hp := ((Entails.of_eq (pPts_1 fullShare 1 _).symm).trans (pPts_lend 1 _)) $$ Hp
  icases Hp with ⟨Hp, L0, L1, L2⟩
  iapply (step_send m K 1 _ 0 rfl (by decide) _ _ rfl rfl _ hG (O1 1) (O2 1) rfl W) $$ HR L0 T0 D0 HO
  iintro ⟨C0, HO⟩
  sl_exec_parts (disch := decide)
  iapply (step_send m K 1 _ 1 rfl (by decide) _ _ rfl rfl _ hG (O2 1) (O3 1) rfl W) $$ HR L1 T1 D1 HO
  iintro ⟨C1, HO⟩
  sl_exec_parts (disch := decide)
  iapply (step_send m K 1 _ 2 rfl (by decide) _ _ rfl rfl _ hG (O3 1) 0 (by rw [zero_add]; rfl) W) $$ HR L2 T2 D2 HO
  iintro ⟨C2, HO⟩
  sl_exec_parts (disch := decide)
  rw [wp_ret]; imodintro
  isplitr; · ipureintro; rfl
  iapply (kept_of_good m _ _ hG) $$ Hk Hv Hp HO C0 C1 C2

set_option maxHeartbeats 4000000 in
theorem spec64_2 (v50 v56 : FVec F S512x512 .bf16) (hq : perBatch v50 v56 = qs m 2) (W : Waits sig Unit) :
    iprop(records m K ∗ pre64 m 2 W)
      ⊢ wp frame (wpE (defs₀ (F := F)) 𝒱₀ ((2 : Dev nD) : Thread nD τ) none) Set.univ
          (k0_part64 xM (Memref.isWhole_whole _) wqM (Memref.isWhole_whole _) kM (Memref.isWhole_whole _) vM (Memref.isWhole_whole _)
            woM (Memref.isWhole_whole _) oM (Memref.isWhole_whole _) p0M (Memref.isWhole_whole _) p1M (Memref.isWhole_whole _)
            p2M (Memref.isWhole_whole _) p3M (Memref.isWhole_whole _) cc0_scratch4 cc0_scratch5 2 (2#32) v50 v56 k0_pay309
            (iota .tc S512x512 32 [0] iota_S512x512_d0_w32) k0_pay310 k0_pay311)
          fun r => iprop(⌜r = ⟨Scalar.extui (Scalar.cmpi .ne (2#32) 0#32), 0#32⟩⌝ ∗ post64 m 2 W) := by
  unfold pre64
  rw [show pAny (F := F) fullShare 2 2 = iprop(∃ f, pPts fullShare 2 2 f) from rfl]
  iintro ⟨#HR, Hk, Hv, ⟨%f, Hp⟩, HO, ⟨T0, D0⟩, ⟨T1, D1⟩, ⟨T2, D2⟩⟩
  ihave Hp := (Entails.of_eq (pPts_2 fullShare 2 f)) $$ Hp
  sl_exec_parts (disch := decide)
  have hG : Good m 2 ((pM 2).view.read (Elt F) (p2M.view.writes (Elt F) f (spec64_2.sl.Hp_32 m v50 v56))) := good2 m v50 v56 hq f
  ihave Hp := ((Entails.of_eq (pPts_2 fullShare 2 _).symm).trans (pPts_lend 2 _)) $$ Hp
  icases Hp with ⟨Hp, L0, L1, L2⟩
  iapply (step_send m K 2 _ 0 rfl (by decide) _ _ rfl rfl _ hG (O1 2) (O2 2) rfl W) $$ HR L0 T0 D0 HO
  iintro ⟨C0, HO⟩
  sl_exec_parts (disch := decide)
  iapply (step_send m K 2 _ 1 rfl (by decide) _ _ rfl rfl _ hG (O2 2) (O3 2) rfl W) $$ HR L1 T1 D1 HO
  iintro ⟨C1, HO⟩
  sl_exec_parts (disch := decide)
  iapply (step_send m K 2 _ 2 rfl (by decide) _ _ rfl rfl _ hG (O3 2) 0 (by rw [zero_add]; rfl) W) $$ HR L2 T2 D2 HO
  iintro ⟨C2, HO⟩
  sl_exec_parts (disch := decide)
  rw [wp_ret]; imodintro
  isplitr; · ipureintro; rfl
  iapply (kept_of_good m _ _ hG) $$ Hk Hv Hp HO C0 C1 C2

set_option maxHeartbeats 4000000 in
theorem spec64_3 (v50 v56 : FVec F S512x512 .bf16) (hq : perBatch v50 v56 = qs m 3) (W : Waits sig Unit) :
    iprop(records m K ∗ pre64 m 3 W)
      ⊢ wp frame (wpE (defs₀ (F := F)) 𝒱₀ ((3 : Dev nD) : Thread nD τ) none) Set.univ
          (k0_part64 xM (Memref.isWhole_whole _) wqM (Memref.isWhole_whole _) kM (Memref.isWhole_whole _) vM (Memref.isWhole_whole _)
            woM (Memref.isWhole_whole _) oM (Memref.isWhole_whole _) p0M (Memref.isWhole_whole _) p1M (Memref.isWhole_whole _)
            p2M (Memref.isWhole_whole _) p3M (Memref.isWhole_whole _) cc0_scratch4 cc0_scratch5 3 (3#32) v50 v56 k0_pay309
            (iota .tc S512x512 32 [0] iota_S512x512_d0_w32) k0_pay310 k0_pay311)
          fun r => iprop(⌜r = ⟨Scalar.extui (Scalar.cmpi .ne (3#32) 0#32), 0#32⟩⌝ ∗ post64 m 3 W) := by
  unfold pre64
  rw [show pAny (F := F) fullShare 3 3 = iprop(∃ f, pPts fullShare 3 3 f) from rfl]
  iintro ⟨#HR, Hk, Hv, ⟨%f, Hp⟩, HO, ⟨T0, D0⟩, ⟨T1, D1⟩, ⟨T2, D2⟩⟩
  ihave Hp := (Entails.of_eq (pPts_3 fullShare 3 f)) $$ Hp
  sl_exec_parts (disch := decide)
  have hG : Good m 3 ((pM 3).view.read (Elt F) (p3M.view.writes (Elt F) f (spec64_3.sl.Hp_32 m v50 v56))) := good3 m v50 v56 hq f
  ihave Hp := ((Entails.of_eq (pPts_3 fullShare 3 _).symm).trans (pPts_lend 3 _)) $$ Hp
  icases Hp with ⟨Hp, L0, L1, L2⟩
  iapply (step_send m K 3 _ 0 rfl (by decide) _ _ rfl rfl _ hG (O1 3) (O2 3) rfl W) $$ HR L0 T0 D0 HO
  iintro ⟨C0, HO⟩
  sl_exec_parts (disch := decide)
  iapply (step_send m K 3 _ 1 rfl (by decide) _ _ rfl rfl _ hG (O2 3) (O3 3) rfl W) $$ HR L1 T1 D1 HO
  iintro ⟨C1, HO⟩
  sl_exec_parts (disch := decide)
  iapply (step_send m K 3 _ 2 rfl (by decide) _ _ rfl rfl _ hG (O3 3) 0 (by rw [zero_add]; rfl) W) $$ HR L2 T2 D2 HO
  iintro ⟨C2, HO⟩
  sl_exec_parts (disch := decide)
  rw [wp_ret]; imodintro
  isplitr; · ipureintro; rfl
  iapply (kept_of_good m _ _ hG) $$ Hk Hv Hp HO C0 C1 C2

theorem spec64 (s : Dev nD) (v50 v56 : FVec F S512x512 .bf16) (hq : perBatch v50 v56 = qs m s) (W : Waits sig Unit) :
    iprop(records m K ∗ pre64 m s W)
      ⊢ wp frame (wpE (defs₀ (F := F)) 𝒱₀ (s : Thread nD τ) none) Set.univ
          (k0_part64 xM (Memref.isWhole_whole _) wqM (Memref.isWhole_whole _) kM (Memref.isWhole_whole _) vM (Memref.isWhole_whole _)
            woM (Memref.isWhole_whole _) oM (Memref.isWhole_whole _) p0M (Memref.isWhole_whole _) p1M (Memref.isWhole_whole _)
            p2M (Memref.isWhole_whole _) p3M (Memref.isWhole_whole _) cc0_scratch4 cc0_scratch5 s (num s) v50 v56 k0_pay309
            (iota .tc S512x512 32 [0] iota_S512x512_d0_w32) k0_pay310 k0_pay311)
          fun r => iprop(⌜r = ⟨Scalar.extui (Scalar.cmpi .ne (num s) 0#32), 0#32⟩⌝ ∗ post64 m s W) := by
  rcases dev_cases s with rfl | rfl | rfl | rfl
  · rw [num_0]; exact spec64_0 m K v50 v56 hq W
  · rw [num_1]; exact spec64_1 m K v50 v56 hq W
  · rw [num_2]; exact spec64_2 m K v50 v56 hq W
  · rw [num_3]; exact spec64_3 m K v50 v56 hq W

end Cert.Exchange
-- ==== Proof.Head.lean ====
/-
# 01_k — the exchange's opening: the signals, the barrier, the queries
-/
module

public import proofs.«01_k».proof.Proof.Send

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

variable (K : Dev nD × Fin 8 → ℕ)

theorem dev1_eq : ∀ c : Dev nD, (⟨k0_dev1 c, k0_dev1_lt c⟩ : Dev nD) = peer c 1 := by decide
theorem dev2_eq : ∀ c : Dev nD, (⟨k0_dev2 c, k0_dev2_lt c⟩ : Dev nD) = peer c 2 := by decide
theorem dev3_eq : ∀ c : Dev nD, (⟨k0_dev3 c, k0_dev3_lt c⟩ : Dev nD) = peer c 3 := by decide
theorem peer1_ne : ∀ c : Dev nD, peer c 1 ≠ c := by decide
theorem peer2_ne : ∀ c : Dev nD, peer c 2 ≠ c := by decide
theorem peer3_ne : ∀ c : Dev nD, peer c 3 ≠ c := by decide

theorem zero2 : (![0, 0] : Fin 2 → Nat) = fun _ => 0 := funext fun a => by fin_cases a <;> rfl
theorem read_wq (f : Vec F S768x512 .bf16) : wqM.view.readAt (Elt F) (Rect.unit ![0, 0] ![768, 512] inb_S768x512_S768x512_0_0).toLoadRect f = f :=
  Memref.readAt_unit_zero (Elt F) cc0_stg1_0 zero2 _ f

/-- The staged blocks the queries are read from. -/
def held63 (c : Dev nD) : sProp 𝕄 :=
  iprop((xM.view.loc (c : Thread nD τ) ↦{fullShare} xstg m c) ∗ (wqM.view.loc (c : Thread nD τ) ↦{fullShare} wqstg m c))

/-- The first two signals. -/
theorem spec62 (c : Dev nD) (W : Waits sig Unit) :
    iprop(records m K ∗ owes (c : Thread nD τ) (O₀ c) W
        ∗ (dutyTok ER (kcell (peer c 1, 0)) 0 c ∗ pAny (F := F) fullShare c (peer c 1)) ∗ dutyTok ER (kcell (peer c 2, 0)) 0 c ∗ pAny (F := F) fullShare c (peer c 2))
      ⊢ wp frame (wpE (defs₀ (F := F)) 𝒱₀ (c : Thread nD τ) none) Set.univ
          (k0_part62 xM (Memref.isWhole_whole _) wqM (Memref.isWhole_whole _) kM (Memref.isWhole_whole _) vM (Memref.isWhole_whole _)
            woM (Memref.isWhole_whole _) oM (Memref.isWhole_whole _) p0M (Memref.isWhole_whole _) p1M (Memref.isWhole_whole _)
            p2M (Memref.isWhole_whole _) p3M (Memref.isWhole_whole _) cc0_scratch4 cc0_scratch5)
          fun r => iprop(⌜r = ⟨c, num c, SemArray.scalar (sig.barrier 0 rfl), Scalar.addi (num c) 3#32, 4#32, Scalar.cmpi .eq 4#32 0#32⟩⌝ ∗ owes (c : Thread nD τ) (B2 c) W) := by
  rw [k0_part62_eq_skeleton]; unfold k0_part62_skel
  simp only [semSignalWord, semWaitWord, Prog.lift, Prog.bind_op, Prog.bind_ret, Prog.pure_eq_ret, wp_deviceId]
  iintro ⟨#HR, HO, ⟨T1, D1⟩, T2, D2⟩
  iapply (step_signal m K c _ 1 (dev1_eq c) (peer1_ne c) (O₀ c) (B1 c) rfl W) $$ HR HO T1 D1
  iintro HO
  iapply (step_signal m K c _ 2 (dev2_eq c) (peer2_ne c) (B1 c) (B2 c) rfl W) $$ HR HO T2 D2
  iintro HO
  rw [wp_ret]; imodintro
  isplitr; · ipureintro; rfl
  iexact HO

/-- The third signal, the barrier's wait, and the queries. -/
theorem spec63 (c : Dev nD) (w30 w4 : BitVec 32) (w31 : BitVec 1) (W : Waits sig Unit) :
    iprop(records m K ∗ levAts L lv ∗ owes (c : Thread nD τ) (B2 c) W ∗ (dutyTok ER (kcell (peer c 3, 0)) 0 c ∗ pAny (F := F) fullShare c (peer c 3))
        ∗ cred (tallyAt (kcell (c, 0)) () 3) ∗ atPos ER (kcell (c, 0)) 0 ∅ 0
        ∗ held63 m c)
      ⊢ wp frame (wpE (defs₀ (F := F)) 𝒱₀ (c : Thread nD τ) none) Set.univ
          (k0_part63 xM (Memref.isWhole_whole _) wqM (Memref.isWhole_whole _) kM (Memref.isWhole_whole _) vM (Memref.isWhole_whole _)
            woM (Memref.isWhole_whole _) oM (Memref.isWhole_whole _) p0M (Memref.isWhole_whole _) p1M (Memref.isWhole_whole _)
            p2M (Memref.isWhole_whole _) p3M (Memref.isWhole_whole _) cc0_scratch4 cc0_scratch5 c (SemArray.scalar (sig.barrier 0 rfl)) w30 w4 w31)
          fun r => iprop(⌜r = ⟨qry (wqstg m c) (xstg m c) 0 (by decide), qry (wqstg m c) (xstg m c) 1 (by decide), k0_pay309,
              iota .tc S512x512 32 [0] iota_S512x512_d0_w32, k0_pay310, k0_pay311⟩⌝
            ∗ owes (c : Thread nD τ) (O1 c) (insert (csem 0, ()) W) ∗ atPos ER (kcell (c, 0)) 1 ∅ 0
            ∗ (pAny (F := F) fullShare (peer c 1) c ∗ pAny (F := F) fullShare (peer c 2) c ∗ pAny (F := F) fullShare (peer c 3) c)
            ∗ held63 m c) := by
  rw [k0_part63_eq_skeleton]; unfold k0_part63_skel
  simp only [semSignalWord, semWaitWord, Prog.lift, Prog.bind_op, Prog.bind_ret, Prog.pure_eq_ret]
  iintro ⟨#HR, #Hlev, HO, ⟨T3, D3⟩, Hc, Hat, HX⟩
  iapply (step_signal m K c _ 3 (dev3_eq c) (peer3_ne c) (B2 c) (O1 c) rfl W) $$ HR HO T3 D3
  iintro HO
  iapply (step_barrier m K c W) $$ HR Hlev Hc HO Hat
  iintro ⟨HO, Hat, HD⟩
  unfold held63
  icases HX with ⟨Hx, Hw⟩
  sl_exec_parts (disch := decide)
  rw [wp_ret]; imodintro
  isplitr; · ipureintro; rw [read_wq]; rfl
  isplitl [HO]; · iexact HO
  isplitl [Hat]; · iexact Hat
  isplitl [HD]; · iexact HD
  isplitl [Hx]; · iexact Hx
  iexact Hw

end Cert.Exchange
-- ==== Proof.Body.lean ====
/-
# 01_k — the body
-/
module

public import proofs.«01_k».proof.Proof.Head

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

variable (K : Dev nD × Fin 8 → ℕ)

/-- The other staged blocks, and the result's staging buffer. -/
def heldKV (c : Dev nD) : sProp 𝕄 :=
  iprop((kM.view.loc (c : Thread nD τ) ↦{fullShare} kstg m c) ∗ (vM.view.loc (c : Thread nD τ) ↦{fullShare} vstg m c))
def heldWo (c : Dev nD) : sProp 𝕄 := iprop((woM.view.loc (c : Thread nD τ) ↦{fullShare} wostg m c))
def outPts (c : Dev nD) (f : Vec F S2x512x768 .f32) : sProp 𝕄 := iprop((oM.view.loc (c : Thread nD τ) ↦{fullShare} f))

/-- The four partial buffers, at any contents. -/
def scratch (c : Dev nD) : sProp 𝕄 :=
  iprop(pAny (F := F) fullShare c c ∗ pAny (F := F) fullShare c (peer c 1) ∗ pAny (F := F) fullShare c (peer c 2) ∗ pAny (F := F) fullShare c (peer c 3))

/-- A device's own place in the exchange at the start: its duties towards the others, and the positions of its cells. -/
def place (c : Dev nD) : sProp 𝕄 :=
  iprop((dutyTok ER (kcell (peer c 1, 0)) 0 c ∗ dutyTok ER (kcell (peer c 2, 0)) 0 c ∗ dutyTok ER (kcell (peer c 3, 0)) 0 c)
    ∗ (sendTok (F := F) c 0 ∗ sendTok (F := F) c 1 ∗ sendTok (F := F) c 2)
    ∗ atPos ER (kcell (c, 0)) 0 ∅ 0
    ∗ (atPos ER (kcell (c, sc 0)) 0 ∅ 0 ∗ atPos ER (kcell (c, sc 1)) 0 ∅ 0 ∗ atPos ER (kcell (c, sc 2)) 0 ∅ 0)
    ∗ (atPos ER (kcell (c, rc c)) 0 ∅ 0 ∗ atPos ER (kcell (c, rc (peer c 1))) 0 ∅ 0 ∗ atPos ER (kcell (c, rc (peer c 2))) 0 ∅ 0
      ∗ atPos ER (kcell (c, rc (peer c 3))) 0 ∅ 0))
/-- What it may count on receiving: the three signals, and the three others' partial results. -/
def expected (c : Dev nD) : sProp 𝕄 :=
  iprop(cred (tallyAt (kcell (c, 0)) () 3)
    ∗ (cred (tallyAt (kcell (c, rc (peer c 1))) () (amt (peer c 1))) ∗ cred (tallyAt (kcell (c, rc (peer c 2))) () (amt (peer c 2)))
      ∗ cred (tallyAt (kcell (c, rc (peer c 3))) () (amt (peer c 3)))))
/-- The eight cells closed. -/
def zeros (c : Dev nD) : sProp 𝕄 :=
  iprop(semVal (kcell (c, 0)) 0 ∗ (semVal (kcell (c, sc 0)) 0 ∗ semVal (kcell (c, sc 1)) 0 ∗ semVal (kcell (c, sc 2)) 0)
    ∗ (semVal (kcell (c, rc c)) 0 ∗ semVal (kcell (c, rc (peer c 1))) 0 ∗ semVal (kcell (c, rc (peer c 2))) 0 ∗ semVal (kcell (c, rc (peer c 3))) 0))

def done (c : Dev nD) : sProp 𝕄 :=
  iprop(scratch (F := F) c ∗ zeros (F := F) c ∗ (∃ W, owes (c : Thread nD τ) 0 W) ∗ held63 m c ∗ heldKV m c ∗ heldWo m c ∗ outPts c (outAt m c))

/-- What is left to do once all transfers of device `c` have been waited for: close the cells. -/
theorem finish (c p1 p2 p3 : Dev nD) (e1 : p1 = peer c 1) (e2 : p2 = peer c 2) (e3 : p3 = peer c 3) (W : Waits sig Unit) (f) (hf : f = outAt m c) :
    records m K ⊢ iprop(pAny (F := F) fullShare c c -∗ pAny (F := F) fullShare c p1 -∗ pAny (F := F) fullShare c p2 -∗ pAny (F := F) fullShare c p3
      -∗ atPos ER (kcell (c, 0)) 1 ∅ 0
      -∗ atPos ER (kcell (c, sc 0)) 1 ∅ 0 -∗ atPos ER (kcell (c, sc 1)) 1 ∅ 0 -∗ atPos ER (kcell (c, sc 2)) 1 ∅ 0
      -∗ atPos ER (kcell (c, rc c)) 0 ∅ 0 -∗ atPos ER (kcell (c, rc p1)) 1 ∅ 0 -∗ atPos ER (kcell (c, rc p2)) 1 ∅ 0 -∗ atPos ER (kcell (c, rc p3)) 1 ∅ 0
      -∗ owes (c : Thread nD τ) 0 W -∗ held63 m c -∗ heldKV m c -∗ heldWo m c -∗ outPts c f -∗ |={Set.univ}=> done m c) := by
  subst hf e1 e2 e3
  iintro #HR P0 P1 P2 P3 A0 S0 S1 S2 R0 R1 R2 R3 HO HX HK HW Hout
  imod (step_close m K c 0) $$ HR A0 with Z0
  imod (step_close m K c (sc 0)) $$ HR S0 with Z1
  imod (step_close m K c (sc 1)) $$ HR S1 with Z2
  imod (step_close m K c (sc 2)) $$ HR S2 with Z3
  imod (step_close_own m K c) $$ HR R0 with Z4
  imod (step_close m K c (rc (peer c 1))) $$ HR R1 with Z5
  imod (step_close m K c (rc (peer c 2))) $$ HR R2 with Z6
  imod (step_close m K c (rc (peer c 3))) $$ HR R3 with Z7
  imodintro
  unfold done scratch zeros
  isplitl [P0 P1 P2 P3]
  · isplitl [P0]; · iexact P0
    isplitl [P1]; · iexact P1
    isplitl [P2]; · iexact P2
    iexact P3
  isplitl [Z0 Z1 Z2 Z3 Z4 Z5 Z6 Z7]
  · isplitl [Z0]; · iexact Z0
    isplitl [Z1 Z2 Z3]
    · isplitl [Z1]; · iexact Z1
      isplitl [Z2]; · iexact Z2
      iexact Z3
    isplitl [Z4]; · iexact Z4
    isplitl [Z5]; · iexact Z5
    isplitl [Z6]; · iexact Z6
    iexact Z7
  isplitl [HO]; · iexists W; iexact HO
  isplitl [HX]; · iexact HX
  isplitl [HK]; · iexact HK
  isplitl [HW]; · iexact HW
  iexact Hout

theorem read_wo (f : Vec F S512x768 .bf16) : woM.view.readAt (Elt F) (Rect.unit ![0, 0] ![512, 768] inb_S512x768_S512x768_0_0).toLoadRect f = f :=
  Memref.readAt_unit_zero (Elt F) cc0_stg4_0 zero2 _ f

/-- The result from buffers that hold the partial results on the columns that are read. -/
theorem out_good (c : Dev nD) {f0 : Vec F S2x512x640 .bf16} {f1 : Vec F S2x160x640 .bf16} {f2 f3 : Vec F S2x32x640 .bf16}
    (h0 : Good m 0 ((pM 0).view.read (Elt F) f0)) (h1 : Good m 1 ((pM 1).view.read (Elt F) f1))
    (h2 : Good m 2 ((pM 2).view.read (Elt F) f2)) (h3 : Good m 3 ((pM 3).view.read (Elt F) f3)) (f : Vec F S2x512x768 .f32) :
    oM.view.writes (Elt F) f (outPieces f0 f1 f2 f3 (woM.view.readAt (Elt F) (Rect.unit (s := S512x768) ![0, 0] ![512, 768] inb_S512x768_S512x768_0_0).toLoadRect (wostg m c) : Vec F S512x768 .bf16)) = outAt m c := by
  rw [read_wo]
  exact (out_written f0 f1 f2 f3 (wostg m c) f).trans (outOf_congr h0 h1 h2 h3 (wostg m c))

theorem any_of_0 (q) (e : Dev nD) (f : Buf (Elt F) (p0M.view.loc (e : Thread nD τ))) : (p0M.view.loc (e : Thread nD τ) ↦{q} f) ⊢ pAny (F := F) q e 0 := by
  unfold pAny pPts; iintro H; iexists f; iexact H
theorem any_of_1 (q) (e : Dev nD) (f : Buf (Elt F) (p1M.view.loc (e : Thread nD τ))) : (p1M.view.loc (e : Thread nD τ) ↦{q} f) ⊢ pAny (F := F) q e 1 := by
  unfold pAny pPts; iintro H; iexists f; iexact H
theorem any_of_2 (q) (e : Dev nD) (f : Buf (Elt F) (p2M.view.loc (e : Thread nD τ))) : (p2M.view.loc (e : Thread nD τ) ↦{q} f) ⊢ pAny (F := F) q e 2 := by
  unfold pAny pPts; iintro H; iexists f; iexact H
theorem any_of_3 (q) (e : Dev nD) (f : Buf (Elt F) (p3M.view.loc (e : Thread nD τ))) : (p3M.view.loc (e : Thread nD τ) ↦{q} f) ⊢ pAny (F := F) q e 3 := by
  unfold pAny pPts; iintro H; iexists f; iexact H

set_option maxHeartbeats 4000000 in
/-- The whole body. -/
theorem sound_body (c : Dev nD) (W : Waits sig Unit) (f : Vec F S2x512x768 .f32) (Kt : PUnit → sProp 𝕄) :
    iprop(records m K ∗ levAts L lv ∗ place (F := F) c ∗ expected (F := F) c ∗ scratch (F := F) c ∗ owes (c : Thread nD τ) (O₀ c) W
        ∗ held63 m c ∗ heldKV m c ∗ heldWo m c ∗ outPts c f ∗ (done m c -∗ Kt ⟨⟩))
      ⊢ wp frame (wpE (defs₀ (F := F)) 𝒱₀ (c : Thread nD τ) none) Set.univ
          (cc0_body xM (Memref.isWhole_whole _) wqM (Memref.isWhole_whole _) kM (Memref.isWhole_whole _) vM (Memref.isWhole_whole _)
            woM (Memref.isWhole_whole _) oM (Memref.isWhole_whole _) p0M (Memref.isWhole_whole _) p1M (Memref.isWhole_whole _)
            p2M (Memref.isWhole_whole _) p3M (Memref.isWhole_whole _) cc0_scratch4 cc0_scratch5) Kt := by
  rw [cc0_body_eq_skeleton]; unfold cc0_body_skel
  rw [wp_bind, k0_part92_eq_skeleton]; unfold k0_part92_skel
  rw [wp_bind]
  unfold place expected scratch
  iintro ⟨#HR, #Hlev, ⟨⟨T1, T2, T3⟩, ⟨S0, S1, S2⟩, AB, ⟨AS0, AS1, AS2⟩, AR0, AR1, AR2, AR3⟩, ⟨CB, CR1, CR2, CR3⟩, ⟨P0, P1, P2, P3⟩, HO, HX, HKV, HWo, Hout, HK⟩
  iapply (wp_wand frame (wpE (defs₀ (F := F)) 𝒱₀ (c : Thread nD τ) none) Set.univ) $$ [HO T1 P1 T2 P2]
  · iapply (spec62 m K c W)
    isplitr; · iexact HR
    isplitl [HO]; · iexact HO
    isplitl [T1 P1]
    · isplitl [T1]; · iexact T1
      iexact P1
    isplitl [T2]; · iexact T2
    iexact P2
  iintro %r ⟨%hr, HO⟩
  subst hr
  dsimp only
  rw [wp_bind]
  iapply (wp_wand frame (wpE (defs₀ (F := F)) 𝒱₀ (c : Thread nD τ) none) Set.univ) $$ [HO T3 P3 CB AB HX]
  · iapply (spec63 m K c _ _ _ W)
    isplitr; · iexact HR
    isplitr; · iexact Hlev
    isplitl [HO]; · iexact HO
    isplitl [T3 P3]
    · isplitl [T3]; · iexact T3
      iexact P3
    isplitl [CB]; · iexact CB
    isplitl [AB]; · iexact AB
    iexact HX
  iintro %r ⟨%hr, HO, AB, ⟨D1, D2, D3⟩, HX⟩
  subst hr
  dsimp only
  rw [wp_bind]
  iapply (wp_wand frame (wpE (defs₀ (F := F)) 𝒱₀ (c : Thread nD τ) none) Set.univ) $$ [HO HKV P0 S0 S1 S2 D1 D2 D3]
  · iapply (spec64 m K c _ _ rfl (insert (csem 0, ()) W))
    isplitr; · iexact HR
    unfold pre64 heldKV
    icases HKV with ⟨Hk, Hv⟩
    isplitl [Hk]; · iexact Hk
    isplitl [Hv]; · iexact Hv
    isplitl [P0]; · iexact P0
    isplitl [HO]; · iexact HO
    isplitl [S0 D1]
    · isplitl [S0]; · iexact S0
      iexact D1
    isplitl [S1 D2]
    · isplitl [S1]; · iexact S1
      iexact D2
    isplitl [S2]; · iexact S2
    iexact D3
  iintro %r ⟨%hr, Hpost⟩
  subst hr
  dsimp only
  unfold post64
  icases Hpost with ⟨Hk, Hv, Hown, HO, CS0, CS1, CS2⟩
  rcases dev_cases c with rfl | rfl | rfl | rfl
  · rw [num_0]
    rw [show peer 0 1 = 1 from rfl, show peer 0 2 = 2 from rfl, show peer 0 3 = 3 from rfl]
    unfold pGood heldWo outPts
    icases Hown with ⟨%f0, %h0, Q0⟩
    ihave Q0 := (Entails.of_eq (pPts_0 fullShare.left 0 f0)) $$ Q0
    sl_exec_parts (disch := decide)
    iapply (step_recv m K 0 1 (by decide) _ rfl _) $$ HR CR1 HO AR1
    unfold pGood
    iintro ⟨HO, AR1, ⟨%f1, %h1, Q1⟩⟩
    ihave Q1 := (Entails.of_eq (pPts_1 fullShare 0 f1)) $$ Q1
    sl_exec_parts (disch := decide)
    iapply (step_recv m K 0 2 (by decide) _ rfl _) $$ HR CR2 HO AR2
    unfold pGood
    iintro ⟨HO, AR2, ⟨%f2, %h2, Q2⟩⟩
    ihave Q2 := (Entails.of_eq (pPts_2 fullShare 0 f2)) $$ Q2
    sl_exec_parts (disch := decide)
    iapply (step_recv m K 0 3 (by decide) _ rfl _) $$ HR CR3 HO AR3
    unfold pGood
    iintro ⟨HO, AR3, ⟨%f3, %h3, Q3⟩⟩
    ihave Q3 := (Entails.of_eq (pPts_3 fullShare 0 f3)) $$ Q3
    sl_exec_parts (disch := decide)
    iapply (step_sent m K 0 0 _ rfl _) $$ HR CS0 HO AS0
    iintro ⟨HO, AS0, U0⟩
    sl_exec_parts (disch := decide)
    iapply (step_sent m K 0 1 _ rfl _) $$ HR CS1 HO AS1
    iintro ⟨HO, AS1, U1⟩
    sl_exec_parts (disch := decide)
    iapply (step_sent m K 0 2 _ rfl _) $$ HR CS2 HO AS2
    iintro ⟨HO, AS2, U2⟩
    sl_exec_parts (disch := decide)
    rw [wp_ret]
    have hf : oM.view.writes (Elt F) f (sound_body.sl.Hout_2 m f0 f1 f2 f3) = outAt m 0 := out_good m 0 h0 h1 h2 h3 f
    ihave P0 := (any_of_0 fullShare.left 0 f0) $$ Q0
    ihave P0 := (pAny_unlend 0) $$ P0 U0 U1 U2
    ihave P1 := (any_of_1 fullShare 0 f1) $$ Q1
    ihave P2 := (any_of_2 fullShare 0 f2) $$ Q2
    ihave P3 := (any_of_3 fullShare 0 f3) $$ Q3
    imod (finish m K 0 1 2 3 rfl rfl rfl _ _ hf) $$ HR P0 P1 P2 P3 AB AS0 AS1 AS2 AR0 AR1 AR2 AR3 HO HX [Hk Hv] [HWo] [Hout] with HD
    · unfold heldKV
      isplitl [Hk]; · iexact Hk
      iexact Hv
    · unfold heldWo; iexact HWo
    · unfold outPts; iexact Hout
    imodintro
    iapply HK; iexact HD
  · rw [num_1]
    rw [show peer 1 1 = 2 from rfl, show peer 1 2 = 3 from rfl, show peer 1 3 = 0 from rfl]
    unfold pGood heldWo outPts
    icases Hown with ⟨%f1, %h1, Q1⟩
    ihave Q1 := (Entails.of_eq (pPts_1 fullShare.left 1 f1)) $$ Q1
    sl_exec_parts (disch := decide)
    iapply (step_recv m K 1 0 (by decide) _ rfl _) $$ HR CR3 HO AR3
    unfold pGood
    iintro ⟨HO, AR3, ⟨%f0, %h0, Q0⟩⟩
    ihave Q0 := (Entails.of_eq (pPts_0 fullShare 1 f0)) $$ Q0
    sl_exec_parts (disch := decide)
    iapply (step_recv m K 1 2 (by decide) _ rfl _) $$ HR CR1 HO AR1
    unfold pGood
    iintro ⟨HO, AR1, ⟨%f2, %h2, Q2⟩⟩
    ihave Q2 := (Entails.of_eq (pPts_2 fullShare 1 f2)) $$ Q2
    sl_exec_parts (disch := decide)
    iapply (step_recv m K 1 3 (by decide) _ rfl _) $$ HR CR2 HO AR2
    unfold pGood
    iintro ⟨HO, AR2, ⟨%f3, %h3, Q3⟩⟩
    ihave Q3 := (Entails.of_eq (pPts_3 fullShare 1 f3)) $$ Q3
    sl_exec_parts (disch := decide)
    iapply (step_sent m K 1 0 _ rfl _) $$ HR CS0 HO AS0
    iintro ⟨HO, AS0, U0⟩
    sl_exec_parts (disch := decide)
    iapply (step_sent m K 1 1 _ rfl _) $$ HR CS1 HO AS1
    iintro ⟨HO, AS1, U1⟩
    sl_exec_parts (disch := decide)
    iapply (step_sent m K 1 2 _ rfl _) $$ HR CS2 HO AS2
    iintro ⟨HO, AS2, U2⟩
    sl_exec_parts (disch := decide)
    rw [wp_ret]
    have hf : oM.view.writes (Elt F) f (sound_body.sl.Hout_2_1 m f1 f0 f2 f3) = outAt m 1 := out_good m 1 h0 h1 h2 h3 f
    ihave P1 := (any_of_1 fullShare.left 1 f1) $$ Q1
    ihave P1 := (pAny_unlend 1) $$ P1 U0 U1 U2
    ihave P2 := (any_of_2 fullShare 1 f2) $$ Q2
    ihave P3 := (any_of_3 fullShare 1 f3) $$ Q3
    ihave P0 := (any_of_0 fullShare 1 f0) $$ Q0
    imod (finish m K 1 2 3 0 rfl rfl rfl _ _ hf) $$ HR P1 P2 P3 P0 AB AS0 AS1 AS2 AR0 AR1 AR2 AR3 HO HX [Hk Hv] [HWo] [Hout] with HD
    · unfold heldKV
      isplitl [Hk]; · iexact Hk
      iexact Hv
    · unfold heldWo; iexact HWo
    · unfold outPts; iexact Hout
    imodintro
    iapply HK; iexact HD
  · rw [num_2]
    rw [show peer 2 1 = 3 from rfl, show peer 2 2 = 0 from rfl, show peer 2 3 = 1 from rfl]
    unfold pGood heldWo outPts
    icases Hown with ⟨%f2, %h2, Q2⟩
    ihave Q2 := (Entails.of_eq (pPts_2 fullShare.left 2 f2)) $$ Q2
    sl_exec_parts (disch := decide)
    iapply (step_recv m K 2 0 (by decide) _ rfl _) $$ HR CR2 HO AR2
    unfold pGood
    iintro ⟨HO, AR2, ⟨%f0, %h0, Q0⟩⟩
    ihave Q0 := (Entails.of_eq (pPts_0 fullShare 2 f0)) $$ Q0
    sl_exec_parts (disch := decide)
    iapply (step_recv m K 2 1 (by decide) _ rfl _) $$ HR CR3 HO AR3
    unfold pGood
    iintro ⟨HO, AR3, ⟨%f1, %h1, Q1⟩⟩
    ihave Q1 := (Entails.of_eq (pPts_1 fullShare 2 f1)) $$ Q1
    sl_exec_parts (disch := decide)
    iapply (step_recv m K 2 3 (by decide) _ rfl _) $$ HR CR1 HO AR1
    unfold pGood
    iintro ⟨HO, AR1, ⟨%f3, %h3, Q3⟩⟩
    ihave Q3 := (Entails.of_eq (pPts_3 fullShare 2 f3)) $$ Q3
    sl_exec_parts (disch := decide)
    iapply (step_sent m K 2 0 _ rfl _) $$ HR CS0 HO AS0
    iintro ⟨HO, AS0, U0⟩
    sl_exec_parts (disch := decide)
    iapply (step_sent m K 2 1 _ rfl _) $$ HR CS1 HO AS1
    iintro ⟨HO, AS1, U1⟩
    sl_exec_parts (disch := decide)
    iapply (step_sent m K 2 2 _ rfl _) $$ HR CS2 HO AS2
    iintro ⟨HO, AS2, U2⟩
    sl_exec_parts (disch := decide)
    rw [wp_ret]
    have hf : oM.view.writes (Elt F) f (sound_body.sl.Hout_2_2 m f2 f0 f1 f3) = outAt m 2 := out_good m 2 h0 h1 h2 h3 f
    ihave P2 := (any_of_2 fullShare.left 2 f2) $$ Q2
    ihave P2 := (pAny_unlend 2) $$ P2 U0 U1 U2
    ihave P3 := (any_of_3 fullShare 2 f3) $$ Q3
    ihave P0 := (any_of_0 fullShare 2 f0) $$ Q0
    ihave P1 := (any_of_1 fullShare 2 f1) $$ Q1
    imod (finish m K 2 3 0 1 rfl rfl rfl _ _ hf) $$ HR P2 P3 P0 P1 AB AS0 AS1 AS2 AR0 AR1 AR2 AR3 HO HX [Hk Hv] [HWo] [Hout] with HD
    · unfold heldKV
      isplitl [Hk]; · iexact Hk
      iexact Hv
    · unfold heldWo; iexact HWo
    · unfold outPts; iexact Hout
    imodintro
    iapply HK; iexact HD
  · rw [num_3]
    rw [show peer 3 1 = 0 from rfl, show peer 3 2 = 1 from rfl, show peer 3 3 = 2 from rfl]
    unfold pGood heldWo outPts
    icases Hown with ⟨%f3, %h3, Q3⟩
    ihave Q3 := (Entails.of_eq (pPts_3 fullShare.left 3 f3)) $$ Q3
    sl_exec_parts (disch := decide)
    iapply (step_recv m K 3 0 (by decide) _ rfl _) $$ HR CR1 HO AR1
    unfold pGood
    iintro ⟨HO, AR1, ⟨%f0, %h0, Q0⟩⟩
    ihave Q0 := (Entails.of_eq (pPts_0 fullShare 3 f0)) $$ Q0
    sl_exec_parts (disch := decide)
    iapply (step_recv m K 3 1 (by decide) _ rfl _) $$ HR CR2 HO AR2
    unfold pGood
    iintro ⟨HO, AR2, ⟨%f1, %h1, Q1⟩⟩
    ihave Q1 := (Entails.of_eq (pPts_1 fullShare 3 f1)) $$ Q1
    sl_exec_parts (disch := decide)
    iapply (step_recv m K 3 2 (by decide) _ rfl _) $$ HR CR3 HO AR3
    unfold pGood
    iintro ⟨HO, AR3, ⟨%f2, %h2, Q2⟩⟩
    ihave Q2 := (Entails.of_eq (pPts_2 fullShare 3 f2)) $$ Q2
    sl_exec_parts (disch := decide)
    iapply (step_sent m K 3 0 _ rfl _) $$ HR CS0 HO AS0
    iintro ⟨HO, AS0, U0⟩
    sl_exec_parts (disch := decide)
    iapply (step_sent m K 3 1 _ rfl _) $$ HR CS1 HO AS1
    iintro ⟨HO, AS1, U1⟩
    sl_exec_parts (disch := decide)
    iapply (step_sent m K 3 2 _ rfl _) $$ HR CS2 HO AS2
    iintro ⟨HO, AS2, U2⟩
    sl_exec_parts (disch := decide)
    rw [wp_ret]
    have hf : oM.view.writes (Elt F) f (sound_body.sl.Hout_2_3 m f3 f0 f1 f2) = outAt m 3 := out_good m 3 h0 h1 h2 h3 f
    ihave P3 := (any_of_3 fullShare.left 3 f3) $$ Q3
    ihave P3 := (pAny_unlend 3) $$ P3 U0 U1 U2
    ihave P0 := (any_of_0 fullShare 3 f0) $$ Q0
    ihave P1 := (any_of_1 fullShare 3 f1) $$ Q1
    ihave P2 := (any_of_2 fullShare 3 f2) $$ Q2
    imod (finish m K 3 0 1 2 rfl rfl rfl _ _ hf) $$ HR P3 P0 P1 P2 AB AS0 AS1 AS2 AR0 AR1 AR2 AR3 HO HX [Hk Hv] [HWo] [Hout] with HD
    · unfold heldKV
      isplitl [Hk]; · iexact Hk
      iexact Hv
    · unfold heldWo; iexact HWo
    · unfold outPts; iexact Hout
    imodintro
    iapply HK; iexact HD

end Cert.Exchange
-- ==== Proof.Dats.lean ====
/-
# 01_k — the body as the pipeline asks for it
-/
module

public import proofs.«01_k».proof.Proof.Body
public import proofs.«01_k».proof.Proof.Gen.KernelIdeal.Points

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-! ## The pipeline's proof data -/

abbrev EP : Emb (UR sig nD τ) (MT nD τ sig Unit (Elt F) ℕ UU ℕ) := embL

/-- What a device's body starts from besides its buffers. -/
def start (c : Dev nD) : sProp 𝕄 :=
  iprop((∃ K, records m K ∗ place (F := F) c) ∗ expected (F := F) c ∗ levAts L lv)
def Φ₀ (c : Dev nD) : sProp 𝕄 := iprop(start m c ∗ scratch (F := F) c)
def Φ₁ (c : Dev nD) : sProp 𝕄 := iprop(scratch (F := F) c ∗ zeros (F := F) c)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => wqstg m c
    | ⟨2, _⟩ => kstg m c
    | ⟨3, _⟩ => vstg m c
    | ⟨4, _⟩ => wostg m c
    | ⟨5, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 6) t0_0 d))
    ∗ (∃ d, stg c cc0_stg1_0 ((dats m 0 c).before (1 : Fin 6) t0_0 d))
    ∗ (∃ d, stg c cc0_stg2_0 ((dats m 0 c).before (2 : Fin 6) t0_0 d))
    ∗ (∃ d, stg c cc0_stg3_0 ((dats m 0 c).before (3 : Fin 6) t0_0 d))
    ∗ (∃ d, stg c cc0_stg4_0 ((dats m 0 c).before (4 : Fin 6) t0_0 d))
    ∗ (∃ d, stg c cc0_stg5_0 ((dats m 0 c).before (5 : Fin 6) t0_0 d)))
def bodyPost (c : Dev nD) : sProp 𝕄 :=
  iprop(Φ₁ (F := F) c ∗ (dats m 0 c).owesAt () t0_0.succ
    ∗ stg c cc0_stg0_0 (xstg m c)
    ∗ stg c cc0_stg1_0 (wqstg m c)
    ∗ stg c cc0_stg2_0 (kstg m c)
    ∗ stg c cc0_stg3_0 (vstg m c)
    ∗ stg c cc0_stg4_0 (wostg m c)
    ∗ stg c cc0_stg5_0 (outAt m c))

theorem staged_0 (c : Dev nD) (d) : (dats m 0 c).before (0 : Fin 6) t0_0 d = xstg m c := by
  unfold Dat.before; rw [if_pos (fetch0_0 t0_0)]; rfl
theorem staged_1 (c : Dev nD) (d) : (dats m 0 c).before (1 : Fin 6) t0_0 d = wqstg m c := by
  unfold Dat.before; rw [if_pos (fetch0_1 t0_0)]; rfl
theorem staged_2 (c : Dev nD) (d) : (dats m 0 c).before (2 : Fin 6) t0_0 d = kstg m c := by
  unfold Dat.before; rw [if_pos (fetch0_2 t0_0)]; rfl
theorem staged_3 (c : Dev nD) (d) : (dats m 0 c).before (3 : Fin 6) t0_0 d = vstg m c := by
  unfold Dat.before; rw [if_pos (fetch0_3 t0_0)]; rfl
theorem staged_4 (c : Dev nD) (d) : (dats m 0 c).before (4 : Fin 6) t0_0 d = wostg m c := by
  unfold Dat.before; rw [if_pos (fetch0_4 t0_0)]; rfl

set_option maxRecDepth 4000 in
/-- The library's body obligation on core `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre m c ⊢ wp frame (wpE (defs₀ (F := F)) 𝒱₀ c none) Set.univ
    (cc0_body xM (Memref.isWhole_whole _) wqM (Memref.isWhole_whole _) kM (Memref.isWhole_whole _) vM (Memref.isWhole_whole _)
            woM (Memref.isWhole_whole _) oM (Memref.isWhole_whole _) p0M (Memref.isWhole_whole _) p1M (Memref.isWhole_whole _)
            p2M (Memref.isWhole_whole _) p3M (Memref.isWhole_whole _) cc0_scratch4 cc0_scratch5) (fun _ => bodyPost m c)
  unfold bodyPre Φ₀ start
  iintro ⟨⟨⟨⟨%K, #HR, Hpl⟩, Hex, #Hlev⟩, Hscr⟩, Ho, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩⟩
  rw [staged_0] at h0
  rw [staged_1] at h1
  rw [staged_2] at h2
  rw [staged_3] at h3
  rw [staged_4] at h4
  subst h0 h1 h2 h3 h4
  unfold Dat.owesAt Pipeline.owesWithin
  icases Ho with ⟨%W, %hW, HO⟩
  rw [show (dats m 0 c).owed t0_0.castSucc = O₀ c from rfl]
  iapply (sound_body m K c W g5 fun _ => bodyPost m c)
  isplitr; · iexact HR
  isplitr; · iexact Hlev
  isplitl [Hpl]; · iexact Hpl
  isplitl [Hex]; · iexact Hex
  isplitl [Hscr]; · iexact Hscr
  isplitl [HO]; · iexact HO
  unfold held63 heldKV heldWo outPts
  isplitl [H0 H1]
  · isplitl [H0]; · iexact H0
    iexact H1
  isplitl [H2 H3]
  · isplitl [H2]; · iexact H2
    iexact H3
  isplitl [H4]; · iexact H4
  isplitl [H5]; · iexact H5
  iintro HD
  unfold done held63 heldKV heldWo outPts bodyPost Φ₁ Dat.owesAt Pipeline.owesWithin
  icases HD with ⟨Hscr, Hz, ⟨%W', HO⟩, ⟨H0, H1⟩, ⟨H2, H3⟩, H4, H5⟩
  rw [show (dats m 0 c).owed t0_0.succ = 0 from rfl]
  isplitl [Hscr Hz]
  · isplitl [Hscr]; · iexact Hscr
    iexact Hz
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

end Cert.Exchange
-- ==== Proof.Launch.lean ====
/-
# 01_k — the launch of the four devices
-/
module

public import Idealize.ShloMosaic.Lib.Pipeline.CollectiveSegs
public import proofs.«01_k».proof.Proof.Dats

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

variable (ρ : Dev nD → PrngReg)

/-! ## Cells and tokens at launch -/

def s₀ : MemSt nD τ sig (Elt F) := ⟨m, fun _ => 0, ρ⟩

/-- The kernel's own semaphores: all cells but the barrier. -/
abbrev osem : Fin 7 → SemLoc sig := fun k => csem k.succ

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Fin 8 → GSem nD τ sig) := by
  rintro ⟨c, k⟩ ⟨c', k'⟩ h
  have h1 : c = c' := congrArg (fun g : GSem nD τ sig => g.1.1) h
  have h2 : k = k' := csem_inj (congrArg Prod.snd h)
  rw [h1, h2]
def ringCells : Finset (GSem nD τ sig) := Finset.univ.map ⟨kcell, kcell_injective⟩

/-- Device `c`'s own cells' duties, by (cell, the device that pays): three for its barrier, one for each of its three
    departures, one for the landing of each other device's partial results. -/
def tokIx (c : Dev nD) : Fin 9 → Fin 8 × Fin 4
  | 0 => (0, peer c 1)
  | 1 => (0, peer c 2)
  | 2 => (0, peer c 3)
  | 3 => (sc 0, 0)
  | 4 => (sc 1, 0)
  | 5 => (sc 2, 0)
  | 6 => (rc (peer c 1), peer c 1)
  | 7 => (rc (peer c 2), peer c 2)
  | 8 => (rc (peer c 3), peer c 3)
def tokOf (cj : Dev nD × Fin 9) : GSem nD τ sig × ℕ × Fin 4 := (kcell (cj.1, (tokIx cj.1 cj.2).1), 0, (tokIx cj.1 cj.2).2)

theorem tokIx_injective : ∀ (c : Dev nD) (j j' : Fin 9), tokIx c j = tokIx c j' → j = j' := by decide
theorem tokOf_injective : Function.Injective (tokOf : Dev nD × Fin 9 → GSem nD τ sig × ℕ × Fin 4) := by
  rintro ⟨c, j⟩ ⟨c', j'⟩ h
  have h1 := kcell_injective (congrArg Prod.fst h)
  have hc : c = c' := congrArg Prod.fst h1
  subst hc
  have h2 : (tokIx c j).2 = (tokIx c j').2 := congrArg (fun x : GSem nD τ sig × ℕ × Fin 4 => x.2.2) h
  rw [tokIx_injective c j j' (Prod.ext (congrArg Prod.snd h1) h2)]
def ringToks : Finset (GSem nD τ sig × ℕ × Fin 4) := Finset.univ.map ⟨tokOf, tokOf_injective⟩

def u₀ : UU :=
  (initOf (Pipeline.cells cfgs cellOf_inj) (Pipeline.launchToks cfgs cellOf_inj), initOf ringCells ringToks)

/-- A duty's token, by where it was minted. -/
abbrev tokAt (c : Dev nD) (j : Fin 9) : sProp 𝕄 := dutyTok ER (kcell (c, (tokIx c j).1)) 0 (tokIx c j).2

/-- What the launch element deals device `c`. -/
def G (c : Dev nD) : sProp 𝕄 :=
  iprop((bigSep Finset.univ fun k : Fin 8 => roundState ER (rd m) (kcell (c, k)) 0)
    ∗ (bigSep Finset.univ fun k : Fin 8 => iprop(atPos ER (kcell (c, k)) 0 ∅ 0 ∗ reached ER (kcell (c, k)) 0))
    ∗ bigSep Finset.univ fun j : Fin 9 => tokAt (F := F) c j)
/-- What the global step makes of it. -/
def G' (c : Dev nD) : sProp 𝕄 := iprop(∃ K, records m K ∗ place (F := F) c)

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

theorem sep_right (P Q R : sProp 𝕄) : iprop((P ∗ Q) ∗ R) = iprop(P ∗ Q ∗ R) :=
  equiv_iff.mp ⟨Idealize.SL.BI.sep_assoc, Idealize.SL.BI.sep_assoc'⟩

/-- The eight cells by role: barrier, sends, own receive, the others' receives. -/
theorem cells_by_role (c : Dev nD) (Φ : Fin 8 → sProp 𝕄) :
    bigSep Finset.univ Φ = iprop(Φ 0 ∗ (Φ (sc 0) ∗ Φ (sc 1) ∗ Φ (sc 2)) ∗ (Φ (rc c) ∗ Φ (rc (peer c 1)) ∗ Φ (rc (peer c 2)) ∗ Φ (rc (peer c 3)))) := by
  have e : bigSep Finset.univ Φ = bigSepL [0, sc 0, sc 1, sc 2, rc c, rc (peer c 1), rc (peer c 2), rc (peer c 3)] Φ :=
    bigSep_univ_eq_bigSepL _ (by revert c; decide) (by revert c; decide) Φ
  rw [e]
  show iprop(Φ 0 ∗ Φ (sc 0) ∗ Φ (sc 1) ∗ Φ (sc 2) ∗ Φ (rc c) ∗ Φ (rc (peer c 1)) ∗ Φ (rc (peer c 2)) ∗ Φ (rc (peer c 3))) = _
  simp only [sep_right]

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 8 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => bigSep Finset.univ fun j : Fin 9 => tokAt (F := F) c j := by
    unfold ringToks; rw [bigSep_map, bigSep_univ_prod]; rfl
  iintro HX
  imod (Rounds.fund ER (rd m) ringCells ringToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The cells' invariants -/

theorem ownSems0_eq (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0 ∗ semVal (kcell (c, 5)) 0
      ∗ semVal (kcell (c, 6)) 0 ∗ semVal (kcell (c, 7)) 0) := by
  rw [Pipeline.ownSems0_eq_of_list c osem [0, 1, 2, 3, 4, 5, 6] (by decide) (by decide)]; rfl
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

/-- All eight counters, the way the launch hands them over and takes them back. -/
theorem sems0_eq (c : Dev nD) :
    iprop(unscopedSems0 c ∗ Pipeline.ownSems0 (Ix := Unit) (Name := ℕ) (U := UU) (Lvl := ℕ) (Val := Elt F) (τ := τ) osem c)
      = (bigSep Finset.univ fun k : Fin 8 => semVal (kcell (c, k)) 0 : sProp 𝕄) := by
  rw [ownSems0_eq, unscopedSems0_eq, bigSep_fin8]

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ bigSep Finset.univ fun j : Fin 9 => tokAt (F := F) c j) := by
  unfold G
  iintro ⟨Hos, Hus, Hst, Hat, Htok⟩
  ihave Hv := (Entails.of_eq (sems0_eq (F := F) c)) $$ [Hos Hus]
  · isplitl [Hus] <;> iassumption
  imod (show iprop((bigSep Finset.univ fun k : Fin 8 => semVal (kcell (c, k)) 0) ∗ bigSep Finset.univ fun k : Fin 8 => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Going round by `n` devices. -/
def shift (n : ℕ) : Dev nD ≃ Dev nD := Equiv.addRight (Fin.ofNat 4 n : Fin 4)

/-- Going on by `3 - i` from a device one reaches a device whose duty minted as number `i` is that first device's. -/
theorem paid_bar : ∀ (d : Dev nD), tokIx (peer d 3) 0 = (0, d) ∧ tokIx (peer d 2) 1 = (0, d) ∧ tokIx (peer d 1) 2 = (0, d) := by decide
theorem paid_recv : ∀ (d : Dev nD), tokIx (peer d 3) 6 = (rc d, d) ∧ tokIx (peer d 2) 7 = (rc d, d) ∧ tokIx (peer d 1) 8 = (rc d, d) := by decide

theorem tok_moved (n : ℕ) (j : Fin 9) (k : Dev nD → Fin 8) (h : ∀ d, tokIx (peer d n) j = (k d, d)) :
    (bigSep Finset.univ fun c : Dev nD => tokAt (F := F) c j) = bigSep Finset.univ fun d : Dev nD => dutyTok ER (kcell (peer d n, k d)) 0 d := by
  rw [bigSep_univ_equiv (shift n)]
  refine bigSep_congr fun d _ => ?_
  show dutyTok ER (kcell (peer d n, (tokIx (peer d n) j).1)) 0 (tokIx (peer d n) j).2 = _
  rw [h]

/-- What stays with device `c`: its positions, and the tokens of the duties it pays. -/
def payToks (c : Dev nD) : sProp 𝕄 :=
  iprop((dutyTok ER (kcell (peer c 1, 0)) 0 c ∗ dutyTok ER (kcell (peer c 2, 0)) 0 c ∗ dutyTok ER (kcell (peer c 3, 0)) 0 c)
    ∗ (sendTok (F := F) c 0 ∗ sendTok (F := F) c 1 ∗ sendTok (F := F) c 2))

theorem toks_around : (bigSep Finset.univ fun c : Dev nD => bigSep Finset.univ fun j : Fin 9 => tokAt (F := F) c j) ⊢ bigSep Finset.univ fun c : Dev nD => payToks (F := F) c := by
  unfold payToks sendTok
  simp only [bigSep_fin9, bigSep_sep']
  rw [tok_moved 3 0 (fun _ => 0) fun d => (paid_bar d).1, tok_moved 2 1 (fun _ => 0) fun d => (paid_bar d).2.1, tok_moved 1 2 (fun _ => 0) fun d => (paid_bar d).2.2,
    tok_moved 3 6 rc fun d => (paid_recv d).1, tok_moved 2 7 rc fun d => (paid_recv d).2.1, tok_moved 1 8 rc fun d => (paid_recv d).2.2]
  iintro ⟨B3, B2, B1, S0, S1, S2, R3, R2, R1⟩
  isplitl [B1 B2 B3]
  · isplitl [B1]; · iexact B1
    isplitl [B2]; · iexact B2
    iexact B3
  isplitl [S0 R1]
  · isplitl [S0]; · iexact S0
    iexact R1
  isplitl [S1 R2]
  · isplitl [S1]; · iexact S1
    iexact R2
  isplitl [S2]; · iexact S2
  iexact R3

theorem place_intro (c : Dev nD) :
    iprop((bigSep Finset.univ fun k : Fin 8 => atPos ER (kcell (c, k)) 0 ∅ 0) ∗ payToks (F := F) c) ⊢ place c := by
  rw [cells_by_role c (fun k => atPos ER (kcell (c, k)) 0 ∅ 0)]
  unfold place payToks
  iintro ⟨⟨H0, H1, H2⟩, T1, T2⟩
  isplitl [T1]; · iexact T1
  isplitl [T2]; · iexact T2
  isplitl [H0]; · iexact H0
  isplitl [H1]; · iexact H1
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 8 → ℕ) (c : Dev nD) : iprop(records m K ∗ place (F := F) c) ⊢ G' m c := by
  unfold G'
  iintro ⟨#H1, H2⟩
  iexists K
  isplitr
  · iexact H1
  iexact H2

theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ bigSep Finset.univ fun j : Fin 9 => tokAt (F := F) c j) : sProp 𝕄)
      ⊢ bigSep Finset.univ (G' m) := by
  rw [bigSep_sep', bigSep_sep', ← bigSep_univ_prod (fun ck : Dev nD × Fin 8 => iprop(∃ κ : ℕ, cellInv ER (rd m) κ (kcell ck))),
    bigSep_congr (s := Finset.univ) (fun (c : Dev nD) _ => bigSep_sep' Finset.univ (fun k : Fin 8 => (atPos ER (kcell (c, k)) 0 ∅ 0 : sProp 𝕄)) (fun k => reached ER (kcell (c, k)) 0)),
    bigSep_sep', ← bigSep_univ_prod (fun ck : Dev nD × Fin 8 => (reached ER (kcell ck) 0 : sProp 𝕄))]
  iintro ⟨HI, ⟨Hat, #HR⟩, Htok⟩
  ihave HK := (BI.bigSep_exists_pi Finset.univ (fun (ck : Dev nD × Fin 8) (κ : ℕ) => (cellInv ER (rd m) κ (kcell ck) : sProp 𝕄))) $$ HI
  icases HK with ⟨%K, #HI⟩
  ihave Htk := (toks_around (F := F)) $$ Htok
  iapply (bigSep_with_persistent (R := records m K) (Φ := fun c => place (F := F) c) fun c _ => ghost_intro m K c)
  isplitr
  · unfold records; isplitl; · iexact HI
    iexact HR
  · iapply ((Entails.of_eq (bigSep_sep' Finset.univ (fun c : Dev nD => bigSep Finset.univ fun k : Fin 8 => (atPos ER (kcell (c, k)) 0 ∅ 0 : sProp 𝕄)) (payToks (F := F))).symm).trans
      (bigSep_mono fun c _ => place_intro c))
    isplitl [Hat]; · iexact Hat
    iexact Htk

/-- The global step: the semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem tally_kcell (a b : Dev nD × Fin 8) (n : ℕ) : (tallyAt (kcell a) () n : CellTallies nD τ sig Unit) (kcell b) () = if b = a then n else 0 := by
  rw [tallyAt_apply]
  by_cases h : b = a
  · rw [h, if_pos ⟨rfl, rfl⟩, if_pos rfl]
  · rw [if_neg (fun h' => h (kcell_injective h'.1)), if_neg h]

/-- What device `d` owes device `c`'s cell `k`. -/
theorem owed_eq (d : Dev nD) (ck : Dev nD × Fin 8) :
    O₀ d (kcell ck) () = (if ck = (peer d 3, rc d) then amt d else 0) + (if ck = (peer d 2, rc d) then amt d else 0) + (if ck = (peer d 1, rc d) then amt d else 0)
      + (if ck = (peer d 3, 0) then 1 else 0) + (if ck = (peer d 2, 0) then 1 else 0) + (if ck = (peer d 1, 0) then 1 else 0) := by
  unfold O₀ B1 B2 O1 O2 O3
  simp only [Pi.add_apply, Finsupp.add_apply, tally_kcell]

theorem owed_bar : ∀ c : Dev nD, ∑ d : Dev nD, O₀ d (kcell (c, 0)) () = 3 := by
  intro c
  simp only [owed_eq]
  have h : ∀ c d : Dev nD, ((c, (0 : Fin 8)) = (peer d 3, rc d)) = False ∧ ((c, (0 : Fin 8)) = (peer d 2, rc d)) = False ∧ ((c, (0 : Fin 8)) = (peer d 1, rc d)) = False := by
    simp only [eq_iff_iff, iff_false]; decide
  simp only [(h c _).1, (h c _).2.1, (h c _).2.2, if_false]
  revert c; decide

theorem owed_recv : ∀ (c s : Dev nD), s ≠ c → ∑ d : Dev nD, O₀ d (kcell (c, rc s)) () = amt s := by
  intro c s hs
  simp only [owed_eq]
  rw [Finset.sum_eq_single s]
  · have h : ∀ c s : Dev nD, s ≠ c → ((c, rc s) = (peer s 3, rc s) ∧ (c, rc s) ≠ (peer s 2, rc s) ∧ (c, rc s) ≠ (peer s 1, rc s))
        ∨ ((c, rc s) ≠ (peer s 3, rc s) ∧ (c, rc s) = (peer s 2, rc s) ∧ (c, rc s) ≠ (peer s 1, rc s))
        ∨ ((c, rc s) ≠ (peer s 3, rc s) ∧ (c, rc s) ≠ (peer s 2, rc s) ∧ (c, rc s) = (peer s 1, rc s)) := by decide
    have h0 : ∀ c s : Dev nD, (c, rc s) ≠ (peer s 3, 0) ∧ (c, rc s) ≠ (peer s 2, 0) ∧ (c, rc s) ≠ (peer s 1, 0) := by decide
    rw [if_neg (h0 c s).1, if_neg (h0 c s).2.1, if_neg (h0 c s).2.2]
    rcases h c s hs with ⟨h1, h2, h3⟩ | ⟨h1, h2, h3⟩ | ⟨h1, h2, h3⟩
    · rw [if_pos h1, if_neg h2, if_neg h3]; simp only [Nat.add_zero]
    · rw [if_neg h1, if_pos h2, if_neg h3]; simp only [Nat.zero_add, Nat.add_zero]
    · rw [if_neg h1, if_neg h2, if_pos h3]; simp only [Nat.zero_add, Nat.add_zero]
  · intro d _ hd
    have h : ∀ c s d : Dev nD, d ≠ s → (c, rc s) ≠ (peer d 3, rc d) ∧ (c, rc s) ≠ (peer d 2, rc d) ∧ (c, rc s) ≠ (peer d 1, rc d)
        ∧ (c, rc s) ≠ (peer d 3, 0) ∧ (c, rc s) ≠ (peer d 2, 0) ∧ (c, rc s) ≠ (peer d 1, 0) := by decide
    obtain ⟨h1, h2, h3, h4, h5, h6⟩ := h c s d hd
    rw [if_neg h1, if_neg h2, if_neg h3, if_neg h4, if_neg h5, if_neg h6]; simp only [Nat.add_zero]
  · intro h; exact absurd (Finset.mem_univ _) h

theorem launch_of (ck : Dev nD × Fin 8) (n : ℕ) (h : ∑ d : Dev nD, O₀ d (kcell ck) () = n) :
    tallyOn (kcell ck) (launchCredit (Pipeline.owing O₀) 0 (kcell ck)) = (tallyAt (kcell ck) () n : CellTallies nD τ sig Unit) := by
  unfold tallyAt; refine congrArg _ (Finsupp.ext fun u => ?_); cases u
  rw [Pipeline.launchCredit_owing, Finsupp.single_eq_same, h]

theorem peer_ne : ∀ c : Dev nD, peer c 1 ≠ c ∧ peer c 2 ≠ c ∧ peer c 3 ≠ c := by decide

theorem creds (c : Dev nD) : (Pipeline.launchCred O₀ c : sProp 𝕄) ⊢ expected c := by
  have hl : ([0, rc (peer c 1), rc (peer c 2), rc (peer c 3)].map csem).Nodup := by revert c; decide
  unfold Pipeline.launchCred
  refine (BI.bigSep_subset (Finset.subset_univ ([0, rc (peer c 1), rc (peer c 2), rc (peer c 3)].map csem).toFinset)).trans ?_
  rw [bigSep_eq_bigSepL _ hl]
  unfold expected
  rw [← launch_of (c, 0) 3 (owed_bar c), ← launch_of (c, rc (peer c 1)) _ (owed_recv c _ (peer_ne c).1),
    ← launch_of (c, rc (peer c 2)) _ (owed_recv c _ (peer_ne c).2.1), ← launch_of (c, rc (peer c 3)) _ (owed_recv c _ (peer_ne c).2.2)]
  exact Idealize.SL.BI.Entails.refl _

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

/-- A device's four partial buffers by owner number. -/
theorem scratch_eq (c : Dev nD) : scratch (F := F) c ⊣⊢ iprop(pAny (F := F) fullShare c 0 ∗ pAny (F := F) fullShare c 1 ∗ pAny (F := F) fullShare c 2 ∗ pAny (F := F) fullShare c 3) := by
  have e : ∀ c : Dev nD, [c, peer c 1, peer c 2, peer c 3].Nodup ∧ ∀ d, d ∈ [c, peer c 1, peer c 2, peer c 3] := by decide
  have h : scratch (F := F) c = bigSep Finset.univ fun s : Dev nD => pAny (F := F) fullShare c s :=
    (bigSep_univ_eq_bigSepL [c, peer c 1, peer c 2, peer c 3] (by revert c; decide) (by revert c; decide) fun s : Dev nD => pAny (F := F) fullShare c s).symm
  rw [h, bigSep_univ_eq_bigSepL [(0 : Dev nD), 1, 2, 3] (by decide) (by decide) fun s : Dev nD => pAny (F := F) fullShare c s]
  exact ⟨BI.Entails.refl _, BI.Entails.refl _⟩

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iapply (scratch_eq c).2
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq]
  unfold Φ₁
  iintro ⟨Hr, Hz⟩
  ihave Hr := (scratch_eq c).1 $$ Hr
  ihave Hz := (show zeros (F := F) c ⊢ iprop(unscopedSems0 c ∗ Pipeline.ownSems0 osem c) from
    Entails.of_eq ((cells_by_role c fun k => semVal (kcell (c, k)) 0).symm.trans (sems0_eq c).symm)) $$ Hz
  icases Hz with ⟨H1, H2⟩
  isplitl [H1]; · iexact H1
  isplitl [H2]; · iexact H2
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- From any memory with zero counters, every weakly fair execution on the four devices ends, with each device's arrays at
    their final contents and every counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Exchange
-- ==== Proof.Result.lean ====
/-
# 01_k — what the run leaves
-/
module

public import proofs.«01_k».proof.Proof.Launch

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

variable (ρ : Dev nD → PrngReg)

/-- The result array ends holding the device's result. -/
theorem finalA_out (c : Dev nD) : finalA m c 5 = outAt m c := by
  unfold finalA
  rw [show cfg0.N = t0_0.val + 1 from rfl, (dats m 0 c).arrAt_succ (5 : Fin 6) t0_0, flush0_5, if_pos rfl]
  have hw : ∀ f : Buf (Elt F) ((cfg0.win 5).arr.view.loc (c : Thread nD τ)), ((cfg0.win 5).blk t0_0).view.read (Elt F) f = f := fun f =>
    Memref.read_access_unit_zero (Elt F) main_v1 (funext fun a => by fin_cases a <;> rfl) _ f
  rw [← hw (((cfg0.win 5).blk t0_0).view.write (Elt F) _ _ _)]
  exact View.read_write_univ _ _

/-- Every execution on the four devices ends, with the result the weighted sum and the arguments as they were. -/
theorem run_result : θ_run defs (onTc (τ := τ) (main (F := F))) ⟨m, fun _ => 0, ρ⟩ (fun r => (∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c 5).trans (finalA_out m c),
      (h.1 c 0).trans ((dats m 0 c).arrAt_in 0 rfl _),
      (h.1 c 1).trans ((dats m 0 c).arrAt_in 1 rfl _),
      (h.1 c 2).trans ((dats m 0 c).arrAt_in 2 rfl _),
      (h.1 c 3).trans ((dats m 0 c).arrAt_in 3 rfl _),
      (h.1 c 4).trans ((dats m 0 c).arrAt_in 4 rfl _)⟩, h.2⟩) (run_main m ρ)

end Cert.Exchange
-- ==== Proof.AtBits.lean ====
/-
# 01_k — the program as printed and its idealization are one program at the machine's floats
-/
module

public import proofs.«01_k».proof.Defs
public import proofs.«01_k».proof.Proof.Result
public import proofs.«01_k».proof.Proof.Gen.Kernel

@[expose] public section

noncomputable section

namespace Cert.Exchange

open Idealize.ShloMosaic Idealize.SL.Sem

/-- At the machine's floats a named constant is the constant itself. -/
instance namedBits : Named Bits where
  named _ _ bits := FloatOps.ofBits bits

/-- The two body tables are one: label by label, the same statements. -/
theorem defs0_eq : Cert.Kernel.defs₀ (F := Bits) = Cert.KernelIdeal.defs₀ (F := Bits) := by
  refine congrArg Defs.onTc (funext fun l => funext fun a => ?_)
  match l, a with
  | ⟨0, _⟩, (t, s) => rfl

theorem defs_eq : Cert.Kernel.defs (F := Bits) = Cert.KernelIdeal.defs (F := Bits) :=
  congrArg (Pipeline.defs Cert.KernelIdeal.pcfgs) defs0_eq

theorem frame_kernel : Cert.quiescent_Kernel := fun m g _ => by
  rw [defs_eq]
  exact (θ_run (Cert.KernelIdeal.defs (F := Bits)) _ _).mono (fun _ h => ⟨fun c => (h.1 c).2, h.2⟩) (run_result (F := Bits) m g)

theorem frame_kernelIdeal : Cert.quiescent_KernelIdeal := fun m g _ =>
  (θ_run (Cert.KernelIdeal.defs (F := Ideal)) _ _).mono (fun _ h => ⟨fun c => (h.1 c).2, h.2⟩) (run_result (F := Ideal) m g)

end Cert.Exchange
-- ==== Proof.RefFrame.lean ====
/-
# 01_k — the reference's run
-/
module

public import proofs.«01_k».proof.Defs
public import proofs.«01_k».proof.Proof.Gen.ReferenceIdeal
public import proofs.«01_k».proof.Proof.Gen.ReferenceIdeal.Run
public import Idealize.ShloMosaic.Lib.Quiescent

@[expose] public section

noncomputable section

namespace Cert.Exchange

open Idealize.ShloMosaic Idealize.SL.Sem

/-- The reference runs and leaves its arguments; it declares no semaphore. -/
theorem frame_reference : Cert.quiescent_ReferenceIdeal := fun m g _ =>
  (θ_run (Cert.ReferenceIdeal.defs (F := Ideal)) _ _).mono
    (fun r h => ⟨fun c => (h c).2, Idealize.ShloMosaic.sem_eq_zero_of_no_sems (by decide) r.2⟩) (Cert.ReferenceIdeal.Value.run (F := Ideal) m g)

end Cert.Exchange
-- ==== Proof.Softmax.lean ====
/-
# 01_k — the softmax equation

Weights exponentiated about any real reference point, summed against values and divided by their sum, are the
softmax taken about the maximum: the common factor cancels. Masked entries are minus infinity and weigh nothing.
-/
module

public import Idealize.ShloMosaic.PureOps.Ideal

@[expose] public section

noncomputable section

namespace Cert.Exchange

open Idealize.ShloMosaic

theorem coe_mul_sum {ι : Type} (c : ℝ) (hc : 0 ≤ c) (s : Finset ι) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (by exact_mod_cast hc) (EReal.coe_ne_top c), ih]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A score kept where the pattern holds, minus infinity elsewhere. -/
def masked (p : Prop) [Decidable p] (s : EReal) : EReal := if p then s else ⊥

theorem exp_masked (p : Prop) [Decidable p] (s c : ℝ) :
    Ideal.exp (masked p (s : EReal) - (c : EReal)) = ((if p then Real.exp (s - c) else 0 : ℝ) : EReal) := by
  unfold masked
  split
  · rw [← EReal.coe_sub]; rfl
  · rw [EReal.bot_sub]; rfl

section
variable {n : ℕ} (M : Fin n → Prop) [DecidablePred M] (S : Fin n → ℝ) (v : Fin n → EReal)

/-- The maximum of masked scores is a real number where some score is kept. -/
theorem fold_max_real (hM : ∃ j, M j) :
    ∃ μ : ℝ, Finset.univ.fold max (⊥ : EReal) (fun j => masked (M j) (S j : EReal)) = (μ : EReal) := by
  obtain ⟨j₀, h₀⟩ := hM
  have hle : ∀ j, masked (M j) (S j : EReal) ≤ Finset.univ.fold max (⊥ : EReal) (fun j => masked (M j) (S j : EReal)) := fun j =>
    Finset.le_fold_max _ |>.mpr (.inr ⟨j, Finset.mem_univ _, le_refl _⟩)
  have htop : Finset.univ.fold max (⊥ : EReal) (fun j => masked (M j) (S j : EReal)) < ⊤ :=
    Finset.fold_max_lt _ |>.mpr ⟨bot_lt_top, fun j _ => by
      unfold masked; split
      · exact EReal.coe_lt_top _
      · exact bot_lt_top⟩
  have hbot := lt_of_lt_of_le (show (⊥ : EReal) < masked (M j₀) (S j₀ : EReal) by unfold masked; rw [if_pos h₀]; exact EReal.bot_lt_coe _) (hle j₀)
  exact ⟨_, (EReal.coe_toReal htop.ne hbot.ne').symm⟩

/-- The weights about the point `c`. -/
def weight (c : ℝ) (j : Fin n) : ℝ := if M j then Real.exp (S j - c) else 0

theorem weight_nonneg (c : ℝ) (j : Fin n) : 0 ≤ weight M S c j := by
  unfold weight; split
  · exact (Real.exp_pos _).le
  · exact le_refl _

theorem weight_sum_pos (hM : ∃ j, M j) (c : ℝ) : 0 < ∑ j, weight M S c j := by
  obtain ⟨j₀, h₀⟩ := hM
  refine Finset.sum_pos' (fun j _ => weight_nonneg M S c j) ⟨j₀, Finset.mem_univ _, ?_⟩
  unfold weight; rw [if_pos h₀]; exact Real.exp_pos _

/-- Two reference points differ by a common factor. -/
theorem weight_shift (c d : ℝ) (j : Fin n) : weight M S c j = Real.exp (d - c) * weight M S d j := by
  unfold weight; split
  · rw [← Real.exp_add]; congr 1; ring
  · rw [mul_zero]

theorem div_pos_real (x : EReal) {r : ℝ} (hr : 0 < r) : Ideal.div x (r : EReal) = ((r⁻¹ : ℝ) : EReal) * x := by
  rw [Ideal.div_coe hr.ne', mul_comm, one_div]

/-- The sum of weighted values over the sum of weights, as a sum of values by normalised weights. -/
theorem ratio_eq (hM : ∃ j, M j) (c : ℝ) :
    Ideal.div (∑ j, (weight M S c j : EReal) * v j) (∑ j, (weight M S c j : EReal))
      = ∑ j, ((weight M S c j / ∑ i, weight M S c i : ℝ) : EReal) * v j := by
  have hp := weight_sum_pos M S hM c
  rw [← coe_sum, div_pos_real _ hp, coe_mul_sum _ (inv_nonneg.mpr hp.le)]
  refine Finset.sum_congr rfl fun j _ => ?_
  rw [← mul_assoc, ← EReal.coe_mul, div_eq_inv_mul]

theorem normal_shift (hM : ∃ j, M j) (c d : ℝ) (j : Fin n) :
    weight M S c j / (∑ i, weight M S c i) = weight M S d j / ∑ i, weight M S d i := by
  have hp := weight_sum_pos M S hM d
  have he := (Real.exp_pos (d - c)).ne'
  rw [show (∑ i, weight M S c i) = Real.exp (d - c) * ∑ i, weight M S d i by
    rw [Finset.mul_sum]; exact Finset.sum_congr rfl fun i _ => weight_shift M S c d i, weight_shift M S c d j]
  exact mul_div_mul_left _ _ he

/-- Weights about a fixed point, summed and divided, are the softmax about the maximum. -/
theorem softmax_eq (hM : ∃ j, M j) (c : ℝ) :
    Ideal.div (∑ j, Ideal.exp (masked (M j) (S j : EReal) - (c : EReal)) * v j) (∑ j, Ideal.exp (masked (M j) (S j : EReal) - (c : EReal)))
      = ∑ j, v j * Ideal.div (Ideal.exp (masked (M j) (S j : EReal) - Finset.univ.fold max (⊥ : EReal) (fun i => masked (M i) (S i : EReal))))
          (∑ j', Ideal.exp (masked (M j') (S j' : EReal) - Finset.univ.fold max (⊥ : EReal) (fun i => masked (M i) (S i : EReal)))) := by
  obtain ⟨μ, hμ⟩ := fold_max_real M S hM
  simp only [hμ, exp_masked]
  refine (ratio_eq M S v hM c).trans (Finset.sum_congr rfl fun j _ => ?_)
  have hp := weight_sum_pos M S hM μ
  change _ = v j * Ideal.div (weight M S μ j : EReal) (∑ i, (weight M S μ i : EReal))
  rw [← coe_sum, div_pos_real _ hp, ← EReal.coe_mul, mul_comm, normal_shift M S hM c μ j, div_eq_inv_mul]

end

end Cert.Exchange
-- ==== Proof.Pattern.lean ====
/-
# 01_k — the pattern's words, and the constants
-/
module

public import Idealize.ShloMosaic.Lib.Pointwise

@[expose] public section

noncomputable section

namespace Cert.Exchange

open Idealize.ShloMosaic

/-- Query `i` attends to key `j`: they are at most 128 apart, or one of them is among the leading 32. -/
def near (i j : ℕ) : Prop := (i ≤ j + 128 ∧ j ≤ i + 128) ∨ j < 32 ∨ i < 32

instance (i j : ℕ) : Decidable (near i j) := by unfold near; infer_instance

theorem toInt_word {a : ℕ} (ha : a < 2 ^ 20) : (BitVec.ofNat 32 a).toInt = (a : ℤ) := by
  rw [BitVec.toInt_eq_toNat_of_lt (by rw [BitVec.toNat_ofNat]; omega), BitVec.toNat_ofNat]; omega

theorem slt_word {a b : ℕ} (ha : a < 2 ^ 20) (hb : b < 2 ^ 20) :
    IntOp.cmpi .slt (BitVec.ofNat 32 a) (BitVec.ofNat 32 b) = BitVec.ofBool (decide (a < b)) := by
  show BitVec.ofBool ((BitVec.ofNat 32 a).slt (BitVec.ofNat 32 b)) = _
  rw [BitVec.slt_eq_decide, toInt_word ha, toInt_word hb]
  exact congrArg _ (decide_eq_decide.mpr (by omega))

theorem sle_word {a b : ℕ} (ha : a < 2 ^ 20) (hb : b < 2 ^ 20) :
    IntOp.cmpi .sle (BitVec.ofNat 32 a) (BitVec.ofNat 32 b) = BitVec.ofBool (decide (a ≤ b)) := by
  show BitVec.ofBool ((BitVec.ofNat 32 a).sle (BitVec.ofNat 32 b)) = _
  rw [BitVec.sle_eq_decide, toInt_word ha, toInt_word hb]
  exact congrArg _ (decide_eq_decide.mpr (by omega))

theorem toInt_diff {a b : ℕ} (ha : a < 2 ^ 20) (hb : b < 2 ^ 20) :
    (BitVec.ofNat 32 a - BitVec.ofNat 32 b).toInt = (a : ℤ) - b := by
  rw [BitVec.toInt_sub, toInt_word ha, toInt_word hb]
  exact Int.bmod_eq_of_le (by omega) (by omega)

theorem dist_word {a b : ℕ} (ha : a < 2 ^ 20) (hb : b < 2 ^ 20) :
    IntOp.cmpi .sle (IntOp.absi (IntOp.subi (BitVec.ofNat 32 a) (BitVec.ofNat 32 b))) 128#32 = BitVec.ofBool (decide (a ≤ b + 128 ∧ b ≤ a + 128)) := by
  show BitVec.ofBool (BitVec.sle (if (BitVec.ofNat 32 a - BitVec.ofNat 32 b).msb then -(BitVec.ofNat 32 a - BitVec.ofNat 32 b)
    else BitVec.ofNat 32 a - BitVec.ofNat 32 b) 128#32) = _
  have hd := toInt_diff ha hb
  have h128 : (128#32 : BitVec 32).toInt = 128 := by decide
  have hn : (-(BitVec.ofNat 32 a - BitVec.ofNat 32 b)).toInt = -((a : ℤ) - b) := by
    rw [BitVec.toInt_neg, hd]; exact Int.bmod_eq_of_le (by omega) (by omega)
  rw [BitVec.sle_eq_decide, BitVec.msb_eq_toInt, hd, h128]
  refine congrArg _ (decide_eq_decide.mpr ?_)
  by_cases hs : (a : ℤ) - b < 0
  · rw [if_pos (decide_eq_true hs), hn]; omega
  · rw [if_neg (by rw [decide_eq_false hs]; decide), hd]; omega

theorem ori_decide (p q : Prop) [Decidable p] [Decidable q] :
    IntOp.ori (BitVec.ofBool (decide p)) (BitVec.ofBool (decide q)) = BitVec.ofBool (decide (p ∨ q)) := by
  by_cases hp : p <;> by_cases hq : q <;> simp [hp, hq] <;> decide

theorem near_word {i j : ℕ} (hi : i < 2 ^ 20) (hj : j < 2 ^ 20) :
    IntOp.ori (IntOp.cmpi .sle (IntOp.absi (IntOp.subi (BitVec.ofNat 32 i) (BitVec.ofNat 32 j))) 128#32)
      (IntOp.ori (IntOp.cmpi .slt (BitVec.ofNat 32 j) 32#32) (IntOp.cmpi .slt (BitVec.ofNat 32 i) 32#32))
      = BitVec.ofBool (decide (near i j)) := by
  rw [dist_word hi hj, slt_word hj (by decide : 32 < 2 ^ 20), slt_word hi (by decide : 32 < 2 ^ 20), ori_decide, ori_decide]
  rfl

theorem near_word' {i j : ℕ} (hi : i < 2 ^ 20) (hj : j < 2 ^ 20) :
    IntOp.ori (IntOp.ori (IntOp.cmpi .sle (IntOp.absi (IntOp.subi (BitVec.ofNat 32 i) (BitVec.ofNat 32 j))) 128#32)
      (IntOp.cmpi .slt (BitVec.ofNat 32 j) 32#32)) (IntOp.cmpi .slt (BitVec.ofNat 32 i) 32#32)
      = BitVec.ofBool (decide (near i j)) := by
  rw [dist_word hi hj, slt_word hj (by decide : 32 < 2 ^ 20), slt_word hi (by decide : 32 < 2 ^ 20), ori_decide, ori_decide]
  exact congrArg _ (decide_eq_decide.mpr or_assoc)

theorem ofBits_neg_inf : Ideal.ofBits .f32 0xFF800000#32 = ⊥ := by simp [Ideal.ofBits, Ideal.ieee]

theorem ofBits_inf : Ideal.ofBits .f32 0x7F800000#32 = ⊤ := by simp [Ideal.ofBits, Ideal.ieee]

theorem ofBits_eighth : Ideal.ofBits .f32 0x3E000000#32 = ((1 / 8 : ℝ) : EReal) := by
  simp [Ideal.ofBits, Ideal.ieee, -EReal.coe_mul]; norm_num

theorem ofBits_sixteen : Ideal.ofBits .f32 0x41800000#32 = ((16 : ℝ) : EReal) := by
  simp [Ideal.ofBits, Ideal.ieee, -EReal.coe_mul]; norm_num

end Cert.Exchange
-- ==== Proof.KernelValue.lean ====
/-
# 01_k — the kernel's partial results, element by element
-/
module

public import proofs.«01_k».proof.Proof.Protocol
public import proofs.«01_k».proof.Proof.Softmax
public import proofs.«01_k».proof.Proof.Pattern

@[expose] public section

noncomputable section

namespace Cert.Exchange

open Cert.KernelIdeal Cert.KernelIdeal.Gen Idealize.ShloMosaic Idealize.ShloMosaic.TcCoe

/-! ## Loads -/

theorem idx_box {R C M N b r0 c0 : ℕ} {α : Type} (f : (⟨3, ![2, M, N]⟩ : Shape).Idx → α) (hb : b < 2) (hr : r0 + R ≤ M) (hc : c0 + C ≤ N)
    (i : Fin R) (d : Fin C) :
    f ((Rect.unit (s := ⟨3, ![2, M, N]⟩) ![b, r0, c0] (⟨3, ![1, R, C]⟩ : Shape).size (inb_box b r0 c0 hb hr hc)).toLoadRect.idx (ix3 0 i d))
      = f (ix3 ⟨b, hb⟩ ⟨r0 + i, by omega⟩ ⟨c0 + d, by omega⟩) := by
  refine congrArg f (funext fun a => ?_)
  match a with
  | ⟨0, _⟩ => exact Fin.ext (by show b + 1 * 0 = b; omega)
  | ⟨1, _⟩ => exact Fin.ext (by show r0 + 1 * i.val = r0 + i.val; omega)
  | ⟨2, _⟩ => exact Fin.ext (by show c0 + 1 * d.val = c0 + d.val; omega)

section
variable (K : Vec Ideal S2x512x512 .bf16) (b h : ℕ) (hb : b < 2) (hh : h < 8)

theorem kAt_apply (j : Fin 512) (d : Fin 64) : kAt K b h hb hh (ix3 0 j d) = K (ix3 ⟨b, hb⟩ j ⟨64 * h + d, by omega⟩) := by
  refine (idx_box K hb (by decide) (by omega) j d).trans (congrArg (fun t => K (ix3 _ t _)) (Fin.ext (Nat.zero_add _)))
theorem vAt_apply (j : Fin 512) (d : Fin 64) : vAt K b h hb hh (ix3 0 j d) = K (ix3 ⟨b, hb⟩ j ⟨64 * h + d, by omega⟩) := kAt_apply K b h hb hh j d
theorem kLow_apply (j : Fin 128) (d : Fin 64) : kLow K b h hb hh (ix3 0 j d) = K (ix3 ⟨b, hb⟩ ⟨j, by omega⟩ ⟨64 * h + d, by omega⟩) := by
  refine (idx_box K hb (by decide) (by omega) j d).trans (congrArg (fun t => K (ix3 _ t _)) (Fin.ext (Nat.zero_add _)))
theorem vLow_apply (j : Fin 128) (d : Fin 64) : vLow K b h hb hh (ix3 0 j d) = K (ix3 ⟨b, hb⟩ ⟨j, by omega⟩ ⟨64 * h + d, by omega⟩) :=
  kLow_apply K b h hb hh j d
end

/-! ## The masks -/

theorem maskA_apply (i j : Fin 512) : maskA (ix2 i j) = BitVec.ofBool (decide (near i j)) := by
  pointwise [maskA, k0_pay310, k0_pay311, k0_pay312]
  exact near_word' (by omega) (by omega)

theorem mask1_apply (i j : Fin 128) : k0_pay313 (ix2 i j) = BitVec.ofBool (decide (j.val ≤ i.val)) := by
  pointwise [k0_pay313]
  exact sle_word (by omega) (by omega)

theorem mask_bot : (Named.named κ "mask" 0xCE6E6B28#32 : Ideal .f32) = ⊥ := rfl

/-! ## A partial result's entries -/

section
variable (q : ℕ → FVec Ideal S512x512 .bf16) (K V : FVec Ideal S2x512x512 .bf16) (b h : ℕ) (hb : b < 2) (hh : h < 8)

/-- A query's score against one of a device's keys, -/
def kScore (i j : Fin 512) : EReal := ∑ d : Fin 64, q b (ix2 i ⟨64 * h + d, by omega⟩) * K (ix3 ⟨b, hb⟩ j ⟨64 * h + d, by omega⟩)

/-- and its weight where the pattern holds. -/
def wt (p : Prop) [Decidable p] (i j : Fin 512) : EReal :=
  Ideal.exp (masked p (kScore q K b h hb hh i j) - Ideal.ofBits .f32 0x41800000#32)

theorem numA_apply (i : Fin 512) (d : Fin 64) : numA q k0_pay309 K V maskA b h hb hh (ix3 0 i d)
    = ∑ j : Fin 512, wt q K b h hb hh (near i j) i j * V (ix3 ⟨b, hb⟩ j ⟨64 * h + d, by omega⟩) := by
  pointwise [numA, accA, maskA_apply, k0_pay309, kAt_apply, vAt_apply, mask_bot]
  rfl
theorem denA_apply (i : Fin 512) : denA q k0_pay309 K V maskA b h hb hh (ix3 0 i 0) = ∑ j : Fin 512, wt q K b h hb hh (near i j) i j := by
  pointwise [denA, accA, maskA_apply, k0_pay309, kAt_apply, vAt_apply, mask_bot]
  rfl
theorem numB_apply (i : Fin 32) (d : Fin 64) : numB q k0_pay309 K V b h hb hh (ix3 0 i d)
    = ∑ j : Fin 512, wt q K b h hb hh True ⟨i, by omega⟩ j * V (ix3 ⟨b, hb⟩ j ⟨64 * h + d, by omega⟩) := by
  pointwise [numB, accB, k0_pay309, kAt_apply, vAt_apply]
  simp only [wt, masked, if_true]
  rfl
theorem denB_apply (i : Fin 32) : denB q k0_pay309 K V b h hb hh (ix3 0 i 0) = ∑ j : Fin 512, wt q K b h hb hh True ⟨i, by omega⟩ j := by
  pointwise [denB, accB, k0_pay309, kAt_apply, vAt_apply]
  simp only [wt, masked, if_true]
  rfl
theorem numC_apply (i : Fin 128) (d : Fin 64) : numC q k0_pay309 K V b h hb hh (ix3 0 i d)
    = ∑ j : Fin 128, wt q K b h hb hh (j.val ≤ i.val) ⟨384 + i, by omega⟩ ⟨j, by omega⟩ * V (ix3 ⟨b, hb⟩ ⟨j, by omega⟩ ⟨64 * h + d, by omega⟩) := by
  pointwise [numC, accC, mask1_apply, k0_pay309, kLow_apply, vLow_apply, mask_bot]
  rfl
theorem denC_apply (i : Fin 128) : denC q k0_pay309 K V b h hb hh (ix3 0 i 0)
    = ∑ j : Fin 128, wt q K b h hb hh (j.val ≤ i.val) ⟨384 + i, by omega⟩ ⟨j, by omega⟩ := by
  pointwise [denC, accC, mask1_apply, k0_pay309, kLow_apply, vLow_apply, mask_bot]
  rfl
end

theorem qry_apply (wq : Vec Ideal S768x512 .bf16) (x : Vec Ideal S2x512x768 .bf16) (b : ℕ) (hb : b < 2) (i n : Fin 512) :
    qry wq x b hb (ix2 i n) = (∑ k : Fin 768, x (ix3 ⟨b, hb⟩ i k) * wq (ix2 k n) : EReal) * Ideal.ofBits .f32 0x3E000000#32 := by
  have hx : ∀ (i : Fin 512) (k : Fin 768), xM.view.readAt (Elt Ideal) (batchRect b hb).toLoadRect x (ix3 0 i k) = x (ix3 ⟨b, hb⟩ i k) := fun i k =>
    (idx_box x hb (by decide) (by decide) i k).trans (congrArg₂ (fun s t => x (ix3 _ s t)) (Fin.ext (Nat.zero_add _)) (Fin.ext (Nat.zero_add _)))
  pointwise [qry, k0_pay307, k0_pay306, hx]

/-! ## The partial buffers' loads -/

section
variable {M : ℕ} (num : ∀ b h : ℕ, b < 2 → h < 8 → Vec Ideal ⟨3, ![1, M, 64]⟩ .bf16) (den : ∀ b h : ℕ, b < 2 → h < 8 → Vec Ideal ⟨3, ![1, M, 1]⟩ .bf16)

theorem load_num {R b r0 h : ℕ} (hb : b < 2) (hr : r0 + R ≤ M) (hh : h < 8) (i : Fin R) (d : Fin 64) :
    layout M num den ((numRect M R b r0 h hb hr hh).toLoadRect.idx (ix3 0 i d)) = num b h hb hh (ix3 0 ⟨r0 + i, by omega⟩ d) :=
  (layout_num num den hb hr hh (ix3 0 i d)).trans (congrArg (num b h hb hh) (ix3_eq_valueIdx (0 : Fin 1) ⟨r0 + i, by omega⟩ d).symm)
theorem load_den {R b r0 h : ℕ} (hb : b < 2) (hr : r0 + R ≤ M) (hh : h < 8) (i : Fin R) :
    layout M num den ((denRect M R b r0 h hb hr hh).toLoadRect.idx (ix3 0 i 0)) = den b h hb hh (ix3 0 ⟨r0 + i, by omega⟩ 0) :=
  (layout_den num den hb hr hh (ix3 0 i 0)).trans (congrArg (den b h hb hh) (ix3_eq_valueIdx (0 : Fin 1) ⟨r0 + i, by omega⟩ (0 : Fin 1)).symm)
end

section
variable (q : ℕ → FVec Ideal S512x512 .bf16) (K V : FVec Ideal S2x512x512 .bf16) (b h : ℕ) (hb : b < 2) (hh : h < 8)

theorem n0_apply {R r0 : ℕ} (hr : r0 + R ≤ 512) (i : Fin R) (d : Fin 64) :
    n0At (tgtA q k0_pay309 K V maskA) R r0 b h hr hb hh (ix3 0 i d)
      = ∑ j : Fin 512, wt q K b h hb hh (near (r0 + i) j) ⟨r0 + i, by omega⟩ j * V (ix3 ⟨b, hb⟩ j ⟨64 * h + d, by omega⟩) :=
  (load_num _ _ hb hr hh i d).trans (numA_apply q K V b h hb hh _ d)
theorem d0_apply {R r0 : ℕ} (hr : r0 + R ≤ 512) (i : Fin R) :
    d0At (tgtA q k0_pay309 K V maskA) R r0 b h hr hb hh (ix3 0 i 0) = ∑ j : Fin 512, wt q K b h hb hh (near (r0 + i) j) ⟨r0 + i, by omega⟩ j :=
  (load_den _ _ hb hr hh i).trans (denA_apply q K V b h hb hh _)
theorem n2_apply (i : Fin 32) (d : Fin 64) : n2At (tgtB q k0_pay309 K V) b h hb hh (ix3 0 i d)
    = ∑ j : Fin 512, wt q K b h hb hh True ⟨i, by omega⟩ j * V (ix3 ⟨b, hb⟩ j ⟨64 * h + d, by omega⟩) := by
  refine (load_num _ _ hb (by decide) hh i d).trans ((numB_apply q K V b h hb hh _ d).trans ?_)
  simp only [Nat.zero_add]
theorem d2_apply (i : Fin 32) : d2At (tgtB q k0_pay309 K V) b h hb hh (ix3 0 i 0) = ∑ j : Fin 512, wt q K b h hb hh True ⟨i, by omega⟩ j := by
  refine (load_den _ _ hb (by decide) hh i).trans ((denB_apply q K V b h hb hh _).trans ?_)
  simp only [Nat.zero_add]
theorem n1_low_apply (i : Fin 32) (d : Fin 64) : n1At (tgt1 q k0_pay309 K V) 32 0 b h (by decide) hb hh (ix3 0 i d)
    = ∑ j : Fin 512, wt q K b h hb hh True ⟨i, by omega⟩ j * V (ix3 ⟨b, hb⟩ j ⟨64 * h + d, by omega⟩) := by
  refine (load_num _ _ hb (by decide) hh i d).trans (Eq.trans ?_ (numB_apply q K V b h hb hh i d))
  rw [ix3_eq_valueIdx]
  exact num1_low q k0_pay309 K V b h hb hh (ix3 0 i d) _ (Nat.zero_add _)
theorem d1_low_apply (i : Fin 32) : d1At (tgt1 q k0_pay309 K V) 32 0 b h (by decide) hb hh (ix3 0 i 0)
    = ∑ j : Fin 512, wt q K b h hb hh True ⟨i, by omega⟩ j := by
  refine (load_den _ _ hb (by decide) hh i).trans (Eq.trans ?_ (denB_apply q K V b h hb hh i))
  rw [ix3_eq_valueIdx]
  exact den1_low q k0_pay309 K V b h hb hh (ix3 0 i 0) _ (Nat.zero_add _)
theorem n1_high_apply (i : Fin 128) (d : Fin 64) : n1At (tgt1 q k0_pay309 K V) 128 32 b h (by decide) hb hh (ix3 0 i d)
    = ∑ j : Fin 128, wt q K b h hb hh (j.val ≤ i.val) ⟨384 + i, by omega⟩ ⟨j, by omega⟩ * V (ix3 ⟨b, hb⟩ ⟨j, by omega⟩ ⟨64 * h + d, by omega⟩) := by
  refine (load_num _ _ hb (by decide) hh i d).trans (Eq.trans ?_ (numC_apply q K V b h hb hh i d))
  rw [ix3_eq_valueIdx]
  exact num1_high q k0_pay309 K V b h hb hh (ix3 0 i d) _ rfl
theorem d1_high_apply (i : Fin 128) : d1At (tgt1 q k0_pay309 K V) 128 32 b h (by decide) hb hh (ix3 0 i 0)
    = ∑ j : Fin 128, wt q K b h hb hh (j.val ≤ i.val) ⟨384 + i, by omega⟩ ⟨j, by omega⟩ := by
  refine (load_den _ _ hb (by decide) hh i).trans (Eq.trans ?_ (denC_apply q K V b h hb hh i))
  rw [ix3_eq_valueIdx]
  exact den1_high q k0_pay309 K V b h hb hh (ix3 0 i 0) _ rfl
end

/-! ## A head's context, in three ranges of rows -/

section
variable (q : Fin 4 → ℕ → FVec Ideal S512x512 .bf16) (K V : Fin 4 → FVec Ideal S2x512x512 .bf16) (b h : ℕ) (hb : b < 2) (hh : h < 8)

/-- The context of a head, of the four devices' queries, keys and values. -/
abbrev ctxOf : FVec Ideal S512x64 .bf16 :=
  ctxHead (tgtA (q 0) k0_pay309 (K 0) (V 0) maskA) (tgt1 (q 1) k0_pay309 (K 1) (V 1)) (tgtB (q 2) k0_pay309 (K 2) (V 2)) (tgtB (q 3) k0_pay309 (K 3) (V 3)) b h hb hh

/-- One device's share of a numerator: its 512 keys. -/
def nAll (c : Fin 4) (p : Fin 512 → Prop) [DecidablePred p] (i : Fin 512) (d : Fin 64) : EReal :=
  ∑ j : Fin 512, wt (q c) (K c) b h hb hh (p j) i j * V c (ix3 ⟨b, hb⟩ j ⟨64 * h + d, by omega⟩)
/-- One device's share of a denominator. -/
def dAll (c : Fin 4) (p : Fin 512 → Prop) [DecidablePred p] (i : Fin 512) : EReal := ∑ j : Fin 512, wt (q c) (K c) b h hb hh (p j) i j

theorem ctx_low (i : Fin 512) (hi : i.val < 32) (d : Fin 64) : ctxOf q K V b h hb hh (ix2 i d)
    = Ideal.div (nAll q K V b h hb hh 0 (fun j => near i j) i d + nAll q K V b h hb hh 1 (fun _ => True) i d
        + nAll q K V b h hb hh 2 (fun _ => True) i d + nAll q K V b h hb hh 3 (fun _ => True) i d)
      (dAll q K b h hb hh 0 (fun j => near i j) i + dAll q K b h hb hh 1 (fun _ => True) i
        + dAll q K b h hb hh 2 (fun _ => True) i + dAll q K b h hb hh 3 (fun _ => True) i) := by
  pointwise [ctxOf, ctxHead, k0_pay325, k0_pay326, k0_pay327, k0_pay328, k0_pay329, k0_pay330, k0_pay331]
  rw [dif_pos hi, n0_apply, d0_apply, n1_low_apply, d1_low_apply, n2_apply, d2_apply]
  simp only [Nat.zero_add]
  exact congrArg₂ Ideal.div (congrArg₂ (· + ·) rfl (n2_apply _ _ _ _ _ _ _ _ _)) (congrArg₂ (· + ·) rfl (d2_apply _ _ _ _ _ _ _ _))
theorem ctx_mid (i : Fin 512) (hi : ¬ i.val < 32) (hi' : i.val - 32 < 352) (d : Fin 64) : ctxOf q K V b h hb hh (ix2 i d)
    = Ideal.div (nAll q K V b h hb hh 0 (fun j => near i j) i d) (dAll q K b h hb hh 0 (fun j => near i j) i) := by
  pointwise [ctxOf, ctxHead, k0_pay325, k0_pay326, k0_pay327, k0_pay328, k0_pay329, k0_pay330, k0_pay331]
  rw [dif_neg hi, dif_pos hi', n0_apply, d0_apply]
  simp only [show 32 + (i.val - 32) = i.val by omega]
  rfl
theorem ctx_high (i : Fin 512) (r : Fin 128) (hi : i.val = 384 + r) (d : Fin 64) : ctxOf q K V b h hb hh (ix2 i d)
    = Ideal.div (nAll q K V b h hb hh 0 (fun j => near i j) i d
        + ∑ j : Fin 128, wt (q 1) (K 1) b h hb hh (j.val ≤ r.val) i ⟨j, by omega⟩ * V 1 (ix3 ⟨b, hb⟩ ⟨j, by omega⟩ ⟨64 * h + d, by omega⟩))
      (dAll q K b h hb hh 0 (fun j => near i j) i + ∑ j : Fin 128, wt (q 1) (K 1) b h hb hh (j.val ≤ r.val) i ⟨j, by omega⟩) := by
  obtain ⟨i, hi0⟩ := i
  dsimp only at hi
  subst hi
  pointwise [ctxOf, ctxHead, k0_pay325, k0_pay326, k0_pay327, k0_pay328, k0_pay329, k0_pay330, k0_pay331]
  rw [dif_neg (by omega), dif_neg (by omega), n0_apply, d0_apply, n1_high_apply, d1_high_apply]
  simp only [show 384 + r.val - 32 - 352 = r.val by omega]
  rfl
end

/-- The heads' contexts side by side. -/
def catHeads (ctx : ∀ h, h < 8 → FVec Ideal S512x64 .bf16) : FVec Ideal S512x512 .bf16 :=
  concatenate S512x512 1 [⟨S512x64, ctx 0 (by decide)⟩, ⟨S512x64, ctx 1 (by decide)⟩, ⟨S512x64, ctx 2 (by decide)⟩, ⟨S512x64, ctx 3 (by decide)⟩,
      ⟨S512x64, ctx 4 (by decide)⟩, ⟨S512x64, ctx 5 (by decide)⟩, ⟨S512x64, ctx 6 (by decide)⟩, ⟨S512x64, ctx 7 (by decide)⟩]
      concatenates_S512x64_S512x64_S512x64_S512x64_S512x64_S512x64_S512x64_S512x64_S512x512_d1

theorem catHeads_apply (ctx : ∀ h, h < 8 → FVec Ideal S512x64 .bf16) (i n : Fin 512) :
    catHeads ctx (ix2 i n) = ctx (n / 64) (by omega) (ix2 i ⟨n % 64, by omega⟩) := by
  have key : ∀ (h : ℕ) (hh : h < 8) (d : Fin 64), h = n.val / 64 → d.val = n.val % 64 →
      ctx h hh (ix2 i d) = ctx (n / 64) (by omega) (ix2 i ⟨n % 64, by omega⟩) := by
    rintro h hh ⟨d, hd⟩ rfl e
    exact congrArg (fun t => ctx _ _ (ix2 i t)) (Fin.ext e)
  pointwise [catHeads]
  repeat' split
  all_goals refine key _ _ _ ?_ ?_ <;> (try dsimp only at *) <;> omega

theorem outBatchOf_eq (ctx : ∀ h, h < 8 → FVec Ideal S512x64 .bf16) (wo : Vec Ideal S512x768 .bf16) :
    outBatchOf ctx wo = shapeCast S1x512x768 (matmul dot_S512x512_S512x768_S512x768_1_0_0_1_n_n none (catHeads ctx)
      (k0_pay324 wo) (constant S512x768 .f32 0x00000000#32)) shapeCasts_S512x768_S1x512x768 := rfl

theorem outBatchOf_apply (ctx : ∀ h, h < 8 → FVec Ideal S512x64 .bf16) (wo : Vec Ideal S512x768 .bf16) (i : Fin 512) (o : Fin 768) :
    outBatchOf ctx wo (ix3 0 i o) = (∑ n : Fin 512, ctx (n / 64) (by omega) (ix2 i ⟨n % 64, by omega⟩) * wo (ix2 n o) : EReal) := by
  rw [outBatchOf_eq]
  pointwise [catHeads_apply, k0_pay324]

end Cert.Exchange
-- ==== Proof.RefValue.lean ====
/-
# 01_k — the reference's result, element by element
-/
module

public import proofs.«01_k».proof.Defs
public import proofs.«01_k».proof.Proof.Gen.ReferenceIdeal
public import proofs.«01_k».proof.Proof.Gen.ReferenceIdeal.Run
public import proofs.«01_k».proof.Proof.Softmax
public import proofs.«01_k».proof.Proof.Pattern
public import Idealize.ShloMosaic.Lib.Pointwise
public import Idealize.ShloMosaic.Lib.Routing.OpsOrder
public import Idealize.ShloMosaic.Lib.Tactic.WordOmega

@[expose] public section

noncomputable section

namespace Cert.Exchange.Ref

open Cert.ReferenceIdeal Cert.ReferenceIdeal.Gen Idealize.ShloMosaic Idealize.ShloMosaic.TcCoe

/-! ## The stages -/

/-- The pattern: near the diagonal, a leading key or a leading query. -/
def refMask : IVec S512x2048 1 := ori (cmpi .sle (absi (subi (broadcastInDim S512x2048 ![0, 1] bcast_S512x1_S512x2048_0_1 (broadcastInDim S512x1 ![0] bcast_S512_S512x1_0 (iotaInDim S512 32 0))) (broadcastInDim S512x2048 ![0, 1] bcast_S1x2048_S512x2048_0_1 (broadcastInDim S1x2048 ![1] bcast_S2048_S1x2048_1 (iotaInDim S2048 32 0))))) (broadcastInDim S512x2048 ![] bcast_S_S512x2048 (constantI S_ 32 128#32))) (ori (broadcastInDim S512x2048 ![0, 1] bcast_S1x2048_S512x2048_0_1 (cmpi .slt (broadcastInDim S1x2048 ![1] bcast_S2048_S1x2048_1 (iotaInDim S2048 32 0)) (broadcastInDim S1x2048 ![] bcast_S_S1x2048 (constantI S_ 32 32#32)))) (broadcastInDim S512x2048 ![0, 1] bcast_S512x1_S512x2048_0_1 (cmpi .slt (broadcastInDim S512x1 ![0] bcast_S512_S512x1_0 (iotaInDim S512 32 0)) (broadcastInDim S512x1 ![] bcast_S_S512x1 (constantI S_ 32 32#32)))))

section
variable (x : FVec Ideal S2x512x768 .bf16) (wq : FVec Ideal S768x512 .bf16) (K V : FVec Ideal S2x2048x512 .bf16) (wo : FVec Ideal S512x768 .bf16)

/-- The masked scores, -/
def refScores : FVec Ideal S2x8x512x2048 .f32 := select (broadcastInDim S2x8x512x2048 ![0, 1, 2, 3] bcast_S1x1x512x2048_S2x8x512x2048_0_1_2_3 (broadcastInDim S1x1x512x2048 ![2, 3] bcast_S512x2048_S1x1x512x2048_2_3 refMask)) (mulf (Host.dotGeneral dot_S2x512x8x64_S2x2048x8x64_S2x8x512x2048_3_3_1_1_02_02 none (shapeCast _ (truncf .bf16 (Host.dotGeneral dot_S2x512x768_S768x512_S2x512x512_2_0_01_1_n_n none x wq) bitsLt_bf16_f32) shapeCasts_S2x512x512_S2x512x8x64) (shapeCast _ K shapeCasts_S2x2048x512_S2x2048x8x64)) (broadcastInDim S2x8x512x2048 ![] bcast_S_S2x8x512x2048 (constant S_ .f32 0x3E000000#32))) (broadcastInDim S2x8x512x2048 ![] bcast_S_S2x8x512x2048 (id (constant S_ .f32 0xFF800000#32)))

/-- their exponentials about the row's maximum, -/
def refExp : FVec Ideal S2x8x512x2048 .f32 := Host.exp (subf (refScores x wq K) (broadcastInDim S2x8x512x2048 ![0, 1, 2, 3] bcast_S2x8x512x1_S2x8x512x2048_0_1_2_3 (broadcastInDim S2x8x512x1 ![0, 1, 2] bcast_S2x8x512_S2x8x512x1_0_1_2 (Host.reduce FloatOps.maximumf (refScores x wq K) (constant S_ .f32 0xFF800000#32) reducesTo_S2x8x512x2048_S2x8x512_d3 h_S_))))

/-- the weights, -/
def refW : FVec Ideal S2x8x512x2048 .f32 := select (broadcastInDim S2x8x512x2048 ![0, 1, 2, 3] bcast_S1x1x512x1_S2x8x512x2048_0_1_2_3 (broadcastInDim S1x1x512x1 ![2] bcast_S512_S1x1x512x1_2 (Host.reduce IntOp.ori refMask (constantI S_ 1 0#1) reducesTo_S512x2048_S512_d1 h_S_))) (Host.divf (refExp x wq K) (broadcastInDim S2x8x512x2048 ![0, 1, 2, 3] bcast_S2x8x512x1_S2x8x512x2048_0_1_2_3 (select (broadcastInDim S2x8x512x1 ![0, 1, 2, 3] bcast_S1x1x512x1_S2x8x512x1_0_1_2_3 (broadcastInDim S1x1x512x1 ![2] bcast_S512_S1x1x512x1_2 (Host.reduce IntOp.ori refMask (constantI S_ 1 0#1) reducesTo_S512x2048_S512_d1 h_S_))) (broadcastInDim S2x8x512x1 ![0, 1, 2] bcast_S2x8x512_S2x8x512x1_0_1_2 (Host.reduceAdd (refExp x wq K) (constant S_ .f32 0x00000000#32) reducesTo_S2x8x512x2048_S2x8x512_d3 h_S_)) (broadcastInDim S2x8x512x1 ![] bcast_S_S2x8x512x1 (id (constant S_ .f32 0x3F800000#32)))))) (broadcastInDim S2x8x512x2048 ![] bcast_S_S2x8x512x2048 (id (constant S_ .f32 0x00000000#32)))

/-- the contexts times the output weights. -/
def refOut : FVec Ideal S2x512x768 .f32 := Host.dotGeneral dot_S2x512x512_S512x768_S2x512x768_2_0_01_1_n_n none (shapeCast _ (transpose S2x512x8x64 [0, 3, 1, 2] (Host.dotGeneral dot_S2x2048x8x64_S2x8x512x2048_S2x8x64x512_1_3_3_2_02_01 none (extf .f32 (shapeCast _ V shapeCasts_S2x2048x512_S2x2048x8x64) bitsLt_bf16_f32) (refW x wq K)) transposes_S2x8x64x512_S2x512x8x64_0_3_1_2) shapeCasts_S2x512x8x64_S2x512x512) (extf .f32 wo bitsLt_bf16_f32)

end

set_option maxRecDepth 16384 in
theorem res_eq (m : (ℓ : Loc nD τ sig) → Buf (Elt Ideal) ℓ) (c : Dev nD) :
    Cert.ReferenceIdeal.Value.res_main_v47 (F := Ideal) m c
      = refOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  unfold Cert.ReferenceIdeal.Value.res_main_v47; rfl

/-! ## Read at an index -/

theorem refMask_apply (i : Fin 512) (j : Fin 2048) : refMask (ix2 i j) = BitVec.ofBool (decide (near i j)) := by
  pointwise [refMask]
  exact near_word (by omega) (by omega)

/-- Column `d` of head `h`. -/
def hcol (h : Fin 8) (d : Fin 64) : Fin 512 := ⟨h * 64 + d, by omega⟩

section
variable (x : FVec Ideal S2x512x768 .bf16) (wq : FVec Ideal S768x512 .bf16) (K V : FVec Ideal S2x2048x512 .bf16) (wo : FVec Ideal S512x768 .bf16)

/-- A query's column, and its score against a key, not yet scaled. -/
def proj (b : Fin 2) (i n : Fin 512) : EReal := ∑ k : Fin 768, x (ix3 b i k) * wq (ix2 k n)
def raw (b : Fin 2) (h : Fin 8) (i : Fin 512) (j : Fin 2048) : EReal := ∑ d : Fin 64, proj x wq b i (hcol h d) * K (ix3 b j (hcol h d))

theorem refScores_apply (b : Fin 2) (h : Fin 8) (i : Fin 512) (j : Fin 2048) :
    refScores x wq K (ix4 b h i j) = masked (near i j) (raw x wq K b h i j * Ideal.ofBits .f32 0x3E000000#32) := by
  pointwise [refScores, refMask_apply]
  unfold masked
  exact if_congr Iff.rfl rfl ofBits_neg_inf

theorem refExp_apply (b : Fin 2) (h : Fin 8) (i : Fin 512) (j : Fin 2048) :
    refExp x wq K (ix4 b h i j) = Ideal.exp (masked (near i j) (raw x wq K b h i j * Ideal.ofBits .f32 0x3E000000#32)
      - Finset.univ.fold max (⊥ : EReal) fun j' : Fin 2048 => masked (near i j') (raw x wq K b h i j' * Ideal.ofBits .f32 0x3E000000#32)) := by
  pointwise [refExp, refScores_apply, ofBits_neg_inf]

theorem refAny (i : Fin 512) : Finset.fold IntOp.ori (0#1) (fun j : Fin 2048 => refMask (ix2 i j)) Finset.univ = 1#1 :=
  (Routing.fold_ori _ _).mpr ⟨0, Finset.mem_univ _, by
    rw [refMask_apply]; exact congrArg _ (decide_eq_true (.inr (.inl (by decide))))⟩

theorem refW_apply (b : Fin 2) (h : Fin 8) (i : Fin 512) (j : Fin 2048) :
    refW x wq K (ix4 b h i j) = Ideal.div (refExp x wq K (ix4 b h i j)) (∑ j', refExp x wq K (ix4 b h i j')) := by
  pointwise [refW]
  rw [refAny]
  rfl

/-- The context of head `h`, feature `d`. -/
def refCtx (b : Fin 2) (i n : Fin 512) : EReal := ∑ j : Fin 2048, V (ix3 b j n) * refW x wq K (ix4 b ⟨n / 64, by omega⟩ i j)

theorem refOut_apply (b : Fin 2) (i : Fin 512) (o : Fin 768) :
    refOut x wq K V wo (ix3 b i o) = ∑ n : Fin 512, refCtx x wq K V b i n * wo (ix2 n o) := by
  pointwise [refOut]
  rfl
end

end Cert.Exchange.Ref
-- ==== Proof.Context.lean ====
/-
# 01_k — a head's context is the reference's

A row's four runs of 512 keys are summed apart by the kernel, which leaves out the runs the pattern masks; a masked key has the
weight zero.
-/
module

public import proofs.«01_k».proof.Proof.KernelValue
public import proofs.«01_k».proof.Proof.RefValue
public import Idealize.ShloMosaic.Lib.Pointwise

@[expose] public section

noncomputable section

namespace Cert.Exchange

open Cert.KernelIdeal Cert.KernelIdeal.Gen Idealize.ShloMosaic Idealize.ShloMosaic.TcCoe

/-! ## Sums over the keys, run by run -/

/-- Key `j` of run `c`. -/
abbrev key (c : Fin 4) (j : Fin 512) : Fin 2048 := ⟨512 * c + j, by omega⟩

theorem sum_runs (f : Fin 2048 → EReal) :
    ∑ k, f k = ∑ j, f (key 0 j) + ∑ j, f (key 1 j) + ∑ j, f (key 2 j) + ∑ j, f (key 3 j) := by
  rw [Fin.sum_univ_two_halves 1024 1024 rfl f, Fin.sum_univ_two_halves 512 512 rfl (fun k : Fin 1024 => f ⟨k, by omega⟩),
    Fin.sum_univ_two_halves 512 512 rfl (fun k : Fin 1024 => f ⟨1024 + k, by omega⟩), ← add_assoc]
  refine congrArg₂ (· + ·) (congrArg₂ (· + ·) (congrArg₂ (· + ·) ?_ ?_) ?_) ?_ <;>
    refine Finset.sum_congr rfl fun j _ => congrArg f (Fin.ext ?_)
  · show j.val = 512 * 0 + j.val; omega
  · show 512 + j.val = 512 * 1 + j.val; omega
  · show 1024 + j.val = 512 * 2 + j.val; omega
  · show 1024 + (512 + j.val) = 512 * 3 + j.val; omega

section
variable (i : Fin 512) (f : Fin 2048 → EReal) (hf : ∀ j : Fin 2048, ¬ near i j → f j = 0)
include hf

theorem run_zero {c : Fin 4} (h : ∀ j : Fin 512, ¬ near i (key c j)) : ∑ j, f (key c j) = 0 :=
  Finset.sum_eq_zero fun j _ => hf _ (h j)

/-- A middle row's sum is over run 0 alone. -/
theorem sum_mid (hi : ¬ i.val < 32) (hi' : i.val < 384) : ∑ k, f k = ∑ j, f (key 0 j) := by
  have h : ∀ c : Fin 4, 1 ≤ c.val → ∑ j, f (key c j) = 0 := fun c hc => run_zero i f hf fun j hn => by
    unfold near at hn; simp only [key] at hn; omega
  rw [sum_runs, h 1 (by decide), h 2 (by decide), h 3 (by decide), add_zero, add_zero, add_zero]

/-- One of the last rows' is over run 0 and the first 128 keys of run 1. -/
theorem sum_high (r : Fin 128) (hi : i.val = 384 + r) : ∑ k, f k = ∑ j, f (key 0 j) + ∑ j : Fin 128, f (key 1 ⟨j, by omega⟩) := by
  have h : ∀ c : Fin 4, 2 ≤ c.val → ∑ j, f (key c j) = 0 := fun c hc => run_zero i f hf fun j hn => by
    unfold near at hn; simp only [key] at hn; omega
  rw [sum_runs, h 2 (by decide), h 3 (by decide), add_zero, add_zero, Fin.sum_univ_two_halves 128 384 rfl (fun j => f (key 1 j))]
  have z : ∑ k : Fin 384, f (key 1 ⟨128 + k, by omega⟩) = 0 := Finset.sum_eq_zero fun k _ => hf _ fun hn => by
    unfold near at hn; simp only [key] at hn
    have : ((1 : Fin 4) : ℕ) = 1 := rfl
    omega
  exact (congrArg (_ + ·) ((congrArg (_ + ·) z).trans (add_zero _)))
end

/-! ## The weights of real scores -/

/-- A row's weight at each key. -/
def rowW (i : Fin 512) (S : Fin 2048 → ℝ) (j : Fin 2048) : EReal := Ideal.exp (masked (near i j) (S j : EReal) - ((16 : ℝ) : EReal))

theorem rowW_far (i : Fin 512) (S : Fin 2048 → ℝ) (j : Fin 2048) (h : ¬ near i j) : rowW i S j = 0 := by
  unfold rowW; rw [exp_masked, if_neg h]; rfl

section
variable (q : Fin 4 → ℕ → FVec Ideal S512x512 .bf16) (K V : Fin 4 → FVec Ideal S2x512x512 .bf16) (b h : ℕ) (hb : b < 2) (hh : h < 8)
  (i : Fin 512) (S : Fin 2048 → ℝ) (hS : ∀ c j, kScore (q c) (K c) b h hb hh i j = (S (key c j) : EReal))
include hS

theorem wt_eq (c : Fin 4) (p : Prop) [Decidable p] (j : Fin 512) (hp : p ↔ near i (key c j)) : wt (q c) (K c) b h hb hh p i j = rowW i S (key c j) := by
  unfold wt rowW masked
  rw [hS, ofBits_sixteen, if_congr hp rfl rfl]

variable (d : Fin 64) (v : Fin 2048 → EReal) (hv : ∀ c j, V c (ix3 ⟨b, hb⟩ j ⟨64 * h + d, by omega⟩) = v (key c j))
include hv

theorem nAll_eq (c : Fin 4) (p : Fin 512 → Prop) [DecidablePred p] (hp : ∀ j, p j ↔ near i (key c j)) :
    nAll q K V b h hb hh c p i d = ∑ j, rowW i S (key c j) * v (key c j) :=
  Finset.sum_congr rfl fun j _ => congrArg₂ (· * ·) (wt_eq q K b h hb hh i S hS c _ j (hp j)) (hv c j)
omit hv in
theorem dAll_eq (c : Fin 4) (p : Fin 512 → Prop) [DecidablePred p] (hp : ∀ j, p j ↔ near i (key c j)) :
    dAll q K b h hb hh c p i = ∑ j, rowW i S (key c j) :=
  Finset.sum_congr rfl fun j _ => wt_eq q K b h hb hh i S hS c _ j (hp j)

/-- A head's context at a row is its weighted values over its weights, of all the keys. -/
theorem ctx_sum : ctxOf q K V b h hb hh (ix2 i d) = Ideal.div (∑ j, rowW i S j * v j) (∑ j, rowW i S j) := by
  have hn : ∀ j : Fin 2048, ¬ near i j → rowW i S j * v j = 0 := fun j hj => by rw [rowW_far i S j hj, zero_mul]
  have h0 : ∀ j : Fin 512, near i j ↔ near i (key 0 j) := fun j => by
    have : (key 0 j).val = j.val := by show 512 * 0 + j.val = _; omega
    rw [this]
  by_cases hi : i.val < 32
  · have ht : ∀ (c : Fin 4) (j : Fin 512), True ↔ near i (key c j) := fun c j => ⟨fun _ => .inr (.inr hi), fun _ => trivial⟩
    rw [ctx_low q K V b h hb hh i hi d, sum_runs, sum_runs]
    simp only [nAll_eq q K V b h hb hh i S hS d v hv _ _ h0, nAll_eq q K V b h hb hh i S hS d v hv _ _ (ht _),
      dAll_eq q K b h hb hh i S hS _ _ h0, dAll_eq q K b h hb hh i S hS _ _ (ht _)]
  by_cases hi' : i.val < 384
  · rw [ctx_mid q K V b h hb hh i hi (by omega) d, sum_mid i _ hn hi hi', sum_mid i _ (rowW_far i S) hi hi',
      nAll_eq q K V b h hb hh i S hS d v hv _ _ h0, dAll_eq q K b h hb hh i S hS _ _ h0]
  · obtain ⟨r, hr⟩ : ∃ r : Fin 128, i.val = 384 + r := ⟨⟨i - 384, by omega⟩, by show i.val = 384 + (i.val - 384); omega⟩
    have h1 : ∀ j : Fin 128, j.val ≤ r.val ↔ near i (key 1 ⟨j, by omega⟩) := fun j => by
      have : (key 1 ⟨j, by omega⟩).val = 512 + j.val := rfl
      rw [this]; unfold near; omega
    rw [ctx_high q K V b h hb hh i r hr d, sum_high i _ hn r hr, sum_high i _ (rowW_far i S) r hr,
      nAll_eq q K V b h hb hh i S hS d v hv _ _ h0, dAll_eq q K b h hb hh i S hS _ _ h0]
    exact congrArg₂ Ideal.div
      (congrArg (_ + ·) (Finset.sum_congr rfl fun j _ => congrArg₂ (· * ·) (wt_eq q K b h hb hh i S hS 1 _ _ (h1 j)) (hv 1 _)))
      (congrArg (_ + ·) (Finset.sum_congr rfl fun j _ => wt_eq q K b h hb hh i S hS 1 _ _ (h1 j)))
end

/-! ## The scores of real operands -/

section
variable (xr : S2x512x768.Idx → ℝ) (wr : S768x512.Idx → ℝ) (Kr : (⟨3, ![2, 2048, 512]⟩ : Shape).Idx → ℝ)

/-- A query's column, and its scaled score against a key. -/
def projR (b : Fin 2) (i n : Fin 512) : ℝ := ∑ k : Fin 768, xr (ix3 b i k) * wr (ix2 k n)
def scoreR (b : Fin 2) (h : Fin 8) (i : Fin 512) (j : Fin 2048) : ℝ :=
  (∑ d : Fin 64, projR xr wr b i (Ref.hcol h d) * Kr (ix3 b j (Ref.hcol h d))) * (1 / 8)

theorem proj_real (b : Fin 2) (i n : Fin 512) :
    (∑ k : Fin 768, (xr (ix3 b i k) : EReal) * (wr (ix2 k n) : EReal)) = (projR xr wr b i n : EReal) := by
  unfold projR; rw [coe_sum]; exact Finset.sum_congr rfl fun k _ => (EReal.coe_mul _ _).symm

theorem raw_real (b : Fin 2) (h : Fin 8) (i : Fin 512) (j : Fin 2048) :
    Ref.raw (fun a => (xr a : EReal)) (fun a => (wr a : EReal)) (fun a => (Kr a : EReal)) b h i j * Ideal.ofBits .f32 0x3E000000#32
      = (scoreR xr wr Kr b h i j : EReal) := by
  unfold scoreR Ref.raw Ref.proj
  rw [ofBits_eighth, EReal.coe_mul, coe_sum]
  refine congrArg (fun t : EReal => t * ((1 / 8 : ℝ) : EReal)) (Finset.sum_congr rfl fun d _ => ?_)
  rw [EReal.coe_mul, proj_real]

variable (q : Fin 4 → ℕ → FVec Ideal S512x512 .bf16) (K : Fin 4 → FVec Ideal S2x512x512 .bf16) (b : Fin 2) (h : Fin 8)
  (hq : ∀ c i n, q c b (ix2 i n) = (∑ k : Fin 768, (xr (ix3 b i k) : EReal) * (wr (ix2 k n) : EReal)) * Ideal.ofBits .f32 0x3E000000#32)
  (hK : ∀ c j n, K c (ix3 b j n) = (Kr (ix3 b (key c j) n) : EReal))
include hq hK

theorem kScore_real (c : Fin 4) (i j : Fin 512) :
    kScore (q c) (K c) b h b.isLt h.isLt i j = (scoreR xr wr Kr b h i (key c j) : EReal) := by
  have hc : ∀ d : Fin 64, (⟨64 * h + d, by omega⟩ : Fin 512) = Ref.hcol h d := fun d => Fin.ext (by show 64 * h.val + d.val = h.val * 64 + d.val; omega)
  unfold kScore scoreR
  rw [Finset.sum_mul, coe_sum]
  refine Finset.sum_congr rfl fun d _ => ?_
  rw [hc]
  refine (congrArg₂ (· * ·) ((hq c i _).trans (congrArg₂ (· * ·) (proj_real xr wr b i _) ofBits_eighth)) (hK c j _)).trans ?_
  rw [← EReal.coe_mul, ← EReal.coe_mul]
  exact congrArg _ (by ring)

variable (V : Fin 4 → FVec Ideal S2x512x512 .bf16) (Vg : FVec Ideal ⟨3, ![2, 2048, 512]⟩ .bf16)
  (hV : ∀ c j n, V c (ix3 b j n) = Vg (ix3 b (key c j) n))
include hV

/-- The kernel's context is the reference's. -/
theorem ctx_eq (i : Fin 512) (d : Fin 64) : ctxOf q K V b h b.isLt h.isLt (ix2 i d)
    = Ref.refCtx (fun a => (xr a : EReal)) (fun a => (wr a : EReal)) (fun a => (Kr a : EReal)) Vg b i ⟨64 * h + d, by omega⟩ := by
  have hd : (⟨(64 * h.val + d.val) / 64, by omega⟩ : Fin 8) = h := Fin.ext (by show (64 * h.val + d.val) / 64 = h.val; omega)
  rw [ctx_sum q K V b h b.isLt h.isLt i (scoreR xr wr Kr b h i) (fun c j => kScore_real xr wr Kr q K b h hq hK c i j) d
    (fun j => Vg (ix3 b j ⟨64 * h + d, by omega⟩)) (fun c j => hV c j _)]
  unfold rowW Ref.refCtx
  rw [softmax_eq (fun j => near i j) (scoreR xr wr Kr b h i) _ ⟨0, .inr (.inl (by decide))⟩ 16]
  refine Finset.sum_congr rfl fun j _ => congrArg (_ * ·) ?_
  rw [Ref.refW_apply]
  simp only [Ref.refExp_apply, hd, raw_real]
end

end Cert.Exchange
-- ==== Proof.Algebraic.lean ====
/-
# 01_k — the value claim: the kernel's result is the reference's
-/
module

public import proofs.«01_k».proof.Proof.Context
public import proofs.«01_k».proof.Proof.Result
public import proofs.«01_k».proof.Pre_finite_KernelIdeal

@[expose] public section

noncomputable section

namespace Cert.Exchange

open Cert.KernelIdeal Cert.KernelIdeal.Gen Idealize.ShloMosaic Idealize.ShloMosaic.TcCoe Idealize.SL.Sem

/-! ## The precondition: real operands -/

theorem real_of_finite (x : EReal) (h : Ideal.cmp .olt (max x (-x)) (Ideal.ofBits .f32 0x7F800000#32) = 1#1) : x = ((x.toReal : ℝ) : EReal) := by
  rw [ofBits_inf] at h
  unfold Ideal.cmp at h
  have hlt : max x (-x) < ⊤ := by
    by_contra hn
    rw [decide_eq_false hn] at h
    exact absurd h (by show ¬ (0#1 = 1#1); decide)
  rw [max_lt_iff] at hlt
  refine (EReal.coe_toReal hlt.1.ne fun hb => ?_).symm
  rw [hb] at hlt
  exact absurd hlt.2 (by simp)

/-! ## A device's block of the keys, or of the values -/

theorem block_keys (A : (⟨3, ![2, 2048, 512]⟩ : Shape).Idx → EReal) (c : Fin 4) (b : Fin 2) (j n : Fin 512) :
    Layout.block ⟨3, ![2, 512, 512]⟩ ⟨3, ![2, 2048, 512]⟩ 1 4 c A (by decide) (ix3 b j n) = A (ix3 b (key c j) n) := by
  refine (Layout.block_apply c A _ _).trans (congrArg A (funext fun a => Fin.ext ?_))
  rw [Layout.Tiles.idx_val]
  match a with
  | ⟨0, _⟩ => rfl
  | ⟨1, _⟩ => show c.val * 512 + j.val = 512 * c.val + j.val; omega
  | ⟨2, _⟩ => rfl

/-- Keys real on every device are real throughout. -/
theorem real_whole (A : (⟨3, ![2, 2048, 512]⟩ : Shape).Idx → EReal)
    (h : ∀ (c : Fin 4) (b : Fin 2) (j n : Fin 512), A (ix3 b (key c j) n) = (((A (ix3 b (key c j) n)).toReal : ℝ) : EReal)) (a) :
    A a = (((A a).toReal : ℝ) : EReal) := by
  have h1 : (a 1).val < 2048 := (a 1).isLt
  have ha : a = ix3 (n0 := 2) (n1 := 2048) (n2 := 512) (a 0) (key ⟨(a 1).val / 512, by omega⟩ ⟨(a 1).val % 512, by omega⟩) (a 2) := by
    funext t
    match t with
    | ⟨0, _⟩ => rfl
    | ⟨1, _⟩ => exact Fin.ext (by show (a 1).val = 512 * ((a 1).val / 512) + (a 1).val % 512; omega)
    | ⟨2, _⟩ => rfl
  rw [ha]; exact h _ _ _ _

/-! ## The results -/

section
variable (m : (ℓ : Loc nD τ sig) → Buf (Elt Ideal) ℓ)
  (x : FVec Ideal S2x512x768 .bf16) (wq : FVec Ideal S768x512 .bf16) (Kg Vg : FVec Ideal ⟨3, ![2, 2048, 512]⟩ .bf16) (wo : FVec Ideal S512x768 .bf16)
  (hx : ∀ c : Dev nD, xstg m c = x) (hwq : ∀ c : Dev nD, wqstg m c = wq) (hwo : ∀ c : Dev nD, wostg m c = wo)
  (hK : ∀ (c : Dev nD) b j n, kstg m c (ix3 b j n) = Kg (ix3 b (key c j) n)) (hV : ∀ (c : Dev nD) b j n, vstg m c (ix3 b j n) = Vg (ix3 b (key c j) n))
  (xr : S2x512x768.Idx → ℝ) (wr : S768x512.Idx → ℝ) (Kr : (⟨3, ![2, 2048, 512]⟩ : Shape).Idx → ℝ)
  (hxr : x = fun a => (xr a : EReal)) (hwr : wq = fun a => (wr a : EReal)) (hKr : Kg = fun a => (Kr a : EReal))

include hx hwq in
theorem qs_apply (c : Dev nD) (b : Fin 2) (i n : Fin 512) :
    qs m c b (ix2 i n) = (∑ k : Fin 768, x (ix3 b i k) * wq (ix2 k n) : EReal) * Ideal.ofBits .f32 0x3E000000#32 := by
  have h : ∀ b' : Fin 2, b' = b → (qry (wqstg m c) (xstg m c) b'.val b'.isLt (ix2 i n) : EReal) = _ := fun b' _ => qry_apply (wqstg m c) (xstg m c) b'.val b'.isLt i n
  rw [← hx c, ← hwq c]
  match b with
  | 0 => exact h 0 rfl
  | 1 => exact h 1 rfl

include hx hwq hwo hK hV hxr hwr hKr in
theorem outAt_eq (c : Dev nD) : outAt m c = Ref.refOut x wq Kg Vg wo := by
  funext y
  obtain ⟨b, i, o, hy⟩ : ∃ (b : Fin 2) (i : Fin 512) (o : Fin 768), y = ix3 b i o :=
    ⟨y 0, y 1, y 2, by funext a; match a with | ⟨0, _⟩ => rfl | ⟨1, _⟩ => rfl | ⟨2, _⟩ => rfl⟩
  subst hy
  have hk : ∀ (h : Fin 8) (d : Fin 64), ctxOf (qs m) (kstg m) (vstg m) b h b.isLt h.isLt (ix2 i d) = Ref.refCtx x wq Kg Vg b i ⟨64 * h + d, by omega⟩ := by
    intro h d
    subst hxr hwr hKr
    exact ctx_eq xr wr Kr (qs m) (kstg m) b h (fun c i n => qs_apply m _ _ hx hwq c b i n) (fun c j n => hK c b j n) (vstg m) Vg (fun c j n => hV c b j n) i d
  rw [Ref.refOut_apply, ← hwo c]
  have e : outAt m c (ix3 b i o) = outBatchOf (fun h hh => ctxOf (qs m) (kstg m) (vstg m) b h b.isLt hh) (wostg m c) (ix3 0 i o) := by
    rw [ix3_eq_valueIdx (0 : Fin 1) i o]; rfl
  rw [e, outBatchOf_apply]
  refine Finset.sum_congr rfl fun n _ => congrArg (fun t : EReal => t * (wostg m c (ix2 n o) : EReal)) ?_
  refine (hk ⟨n / 64, by omega⟩ ⟨n % 64, by omega⟩).trans (congrArg _ (Fin.ext ?_))
  show 64 * (n.val / 64) + n.val % 64 = n.val
  omega
end

/-! ## The claim -/

theorem algebraic [Cert.Pre_finite_KernelIdeal.Facts] : Cert.algebraic_KernelIdeal_ReferenceIdeal_pre_finite_KernelIdeal := by
  intro m g m' g' hpre hag
  have hx : ∀ c : Dev nD, xstg m c = _ := fun c => (Memref.read_access_unit_zero (Elt Ideal) main_arg0 (funext fun a => by fin_cases a <;> rfl) _ _).trans (hag c).1
  have hwq : ∀ c : Dev nD, wqstg m c = _ := fun c => (Memref.read_access_unit_zero (Elt Ideal) main_arg1 (funext fun a => by fin_cases a <;> rfl) _ _).trans (hag c).2.1
  have hk0 : ∀ c : Dev nD, kstg m c = _ := fun c => (Memref.read_access_unit_zero (Elt Ideal) main_arg2 (funext fun a => by fin_cases a <;> rfl) _ _).trans (hag c).2.2.1
  have hv0 : ∀ c : Dev nD, vstg m c = _ := fun c => (Memref.read_access_unit_zero (Elt Ideal) main_arg3 (funext fun a => by fin_cases a <;> rfl) _ _).trans (hag c).2.2.2.1
  have hwo : ∀ c : Dev nD, wostg m c = _ := fun c => (Memref.read_access_unit_zero (Elt Ideal) main_arg4 (funext fun a => by fin_cases a <;> rfl) _ _).trans (hag c).2.2.2.2
  have hK : ∀ (c : Dev nD) b j n, kstg m c (ix3 b j n) = _ := fun c b j n => (congrFun (hk0 c) _).trans (block_keys _ c b j n)
  have hV : ∀ (c : Dev nD) b j n, vstg m c (ix3 b j n) = _ := fun c b j n => (congrFun (hv0 c) _).trans (block_keys _ c b j n)
  have hxr : ∀ a, _ = _ := fun a => real_of_finite (m ((0 : Dev nD).tc.loc main_arg0) a) (congrFun (hpre 0).1 a)
  have hwr : ∀ a, _ = _ := fun a => real_of_finite (m ((0 : Dev nD).tc.loc main_arg1) a) (congrFun (hpre 0).2.1 a)
  have hkr : ∀ (c : Dev nD) a, _ = _ := fun c a => real_of_finite (m (c.tc.loc main_arg2) a) (congrFun (hpre c).2.2 a)
  rw [(hag 0).1] at hxr
  rw [(hag 0).2.1] at hwr
  have hKr := real_whole _ fun c b j n => by
    have h := hkr c (ix3 b j n)
    rw [(hag c).2.2.1] at h
    exact (block_keys _ c b j n).symm.trans (h.trans (congrArg (fun t : EReal => ((t.toReal : ℝ) : EReal)) (block_keys _ c b j n)))
  have hout := outAt_eq m _ _ _ _ _ hx hwq hwo hK hV _ _ _ (funext hxr) (funext hwr) (funext hKr)
  refine ⟨Cert.ReferenceIdeal.Value.res_main_v47 (F := Ideal) m' 0, ?_, ?_⟩
  · exact (θ_run (Cert.KernelIdeal.defs (F := Ideal)) _ _).mono
      (fun r h c => ⟨(h.1 c).1.trans ((hout c).trans (Ref.res_eq m' 0).symm), (h.1 c).2⟩) (run_result (F := Ideal) m g)
  · exact (θ_run (Cert.ReferenceIdeal.defs (F := Ideal)) _ _).mono (fun r h => h 0) (Cert.ReferenceIdeal.Value.run (F := Ideal) m' g')

end Cert.Exchange
-- ==== Proof.lean ====
/-
# 01_k — the certificate
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.AtBits
public import proofs.«01_k».proof.Proof.RefFrame
public import proofs.«01_k».proof.Proof.Algebraic
public import Idealize.ShloMosaic.Adequacy
public import Idealize.ShloMosaic.Init

@[expose] public section

noncomputable section

namespace Cert.Proof

open Idealize.ShloMosaic Idealize.SL.Sem

/-- The shape relations that the precondition states, of one device's arrays and of the reference's. -/
theorem finite_kernel : Cert.Pre_finite_KernelIdeal.Facts where
  bitsLt_bf16_f32 := by decide
  bcast_S_S2x512x768 := by decide
  bcast_S_S768x512 := by decide
  bcast_S_S2x512x512 := by decide
theorem finite_reference : Cert.Pre_finite_ReferenceIdeal.Facts where
  bitsLt_bf16_f32 := by decide
  bcast_S_S2x512x768 := by decide
  bcast_S_S768x512 := by decide
  bcast_S_S2x2048x512 := by decide

theorem claim : Cert.Claim := ⟨Cert.Kernel.Gen.facts, Cert.KernelIdeal.Gen.facts, Cert.ReferenceIdeal.Gen.facts, finite_kernel, finite_reference,
  Cert.Exchange.frame_kernel, Cert.Exchange.frame_kernelIdeal, fun m g _ => Cert.Exchange.frame_kernelIdeal m g trivial,
  Cert.Exchange.frame_reference, fun m g _ => Cert.Exchange.frame_reference m g trivial,
  IdealRules.named_const.statement _ _ _ _ _ rfl, @Cert.Exchange.algebraic finite_kernel⟩

end Cert.Proof

end
